-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x128x4096 : Shape := ⟨3, ![1, 128, 4096]⟩
abbrev S_ : Shape := ⟨0, ![]⟩
abbrev S14336x4096 : Shape := ⟨2, ![14336, 4096]⟩
abbrev S14336 : Shape := ⟨1, ![14336]⟩

class Facts : Prop where
  bcast_S_S14336 : S_.BroadcastsInDim S14336 (![] : Fin 0 → Fin S14336.rank)

variable [Facts]

def fn {F : FTy → Type} [FloatOps F] (main_arg0 : IVec S1x128x4096 8) (main_arg1 : IVec S_ 32) (main_arg2 : IVec S14336x4096 8) (main_arg3 : IVec S14336 32) (main_arg4 : IVec S14336 32) (main_arg5 : IVec S14336 32) (main_arg6 : IVec S14336 32) (main_arg7 : IVec S_ 32) : IVec S14336 1 :=
  let main_c : IVec S_ 32 := constantI S_ 32 4294934783#32
  let main_v0 : IVec S_ 1 := cmpi .sge main_arg1 main_c
  let main_c_0 : IVec S_ 32 := constantI S_ 32 32767#32
  let main_v1 : IVec S_ 1 := cmpi .sle main_arg1 main_c_0
  let main_v2 : IVec S_ 1 := andi main_v0 main_v1
  let main_c_1 : IVec S_ 32 := constantI S_ 32 0#32
  let main_v3 : IVec S14336 32 := broadcastInDim S14336 ![] bcast_S_S14336 main_c_1
  let main_v4 : IVec S14336 1 := cmpi .sge main_arg5 main_v3
  let main_v5 : IVec S14336 1 := broadcastInDim S14336 ![] bcast_S_S14336 main_v2
  let main_v6 : IVec S14336 1 := andi main_v5 main_v4
  main_v6
-- ==== Kernel.lean ====
abbrev S1x128x4096 : Shape := ⟨3, ![1, 128, 4096]⟩
abbrev S_ : Shape := ⟨0, ![]⟩
abbrev S14336x4096 : Shape := ⟨2, ![14336, 4096]⟩
abbrev S14336 : Shape := ⟨1, ![14336]⟩
abbrev S1 : Shape := ⟨1, ![1]⟩
abbrev S128x4096 : Shape := ⟨2, ![128, 4096]⟩
abbrev S1x14336 : Shape := ⟨2, ![1, 14336]⟩
abbrev S128x14336 : Shape := ⟨2, ![128, 14336]⟩
abbrev S512x4096 : Shape := ⟨2, ![512, 4096]⟩
abbrev S1x512 : Shape := ⟨2, ![1, 512]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S512x512 : Shape := ⟨2, ![512, 512]⟩
abbrev S1x128x14336 : Shape := ⟨3, ![1, 128, 14336]⟩

abbrev nBuf : Space → Nat
  | .hbm => 17
  | .vmem => 15
  | .smem => 2
  | _ => 0

abbrev bufTy : (tb : Table) → Fin (tcTables nBuf tb) → BufTy
  | .hbm, ⟨0, _⟩ => ⟨S1x128x4096, .i8⟩
  | .hbm, ⟨1, _⟩ => ⟨S_, .i32⟩
  | .hbm, ⟨2, _⟩ => ⟨S14336x4096, .i8⟩
  | .hbm, ⟨3, _⟩ => ⟨S14336, .i32⟩
  | .hbm, ⟨4, _⟩ => ⟨S14336, .i32⟩
  | .hbm, ⟨5, _⟩ => ⟨S14336, .i32⟩
  | .hbm, ⟨6, _⟩ => ⟨S14336, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S128x4096, .i8⟩
  | .hbm, ⟨11, _⟩ => ⟨S1x14336, .i32⟩
  | .hbm, ⟨12, _⟩ => ⟨S1x14336, .i32⟩
  | .hbm, ⟨13, _⟩ => ⟨S1x14336, .i32⟩
  | .hbm, ⟨14, _⟩ => ⟨S1x14336, .i32⟩
  | .hbm, ⟨15, _⟩ => ⟨S128x14336, .i8⟩
  | .hbm, ⟨16, _⟩ => ⟨S1x128x14336, .i8⟩
  | .local _ .vmem, ⟨0, _⟩ => ⟨S128x4096, .i8⟩
  | .local _ .vmem, ⟨1, _⟩ => ⟨S512x4096, .i8⟩
  | .local _ .vmem, ⟨2, _⟩ => ⟨S512x4096, .i8⟩
  | .local _ .vmem, ⟨3, _⟩ => ⟨S1x512, .i32⟩
  | .local _ .vmem, ⟨4, _⟩ => ⟨S1x512, .i32⟩
  | .local _ .vmem, ⟨5, _⟩ => ⟨S1x512, .i32⟩
  | .local _ .vmem, ⟨6, _⟩ => ⟨S1x512, .i32⟩
  | .local _ .vmem, ⟨7, _⟩ => ⟨S1x512, .i32⟩
  | .local _ .vmem, ⟨8, _⟩ => ⟨S1x512, .i32⟩
  | .local _ .vmem, ⟨9, _⟩ => ⟨S1x512, .i32⟩
  | .local _ .vmem, ⟨10, _⟩ => ⟨S1x512, .i32⟩
  | .local _ .vmem, ⟨11, _⟩ => ⟨S128x512, .i8⟩
  | .local _ .vmem, ⟨12, _⟩ => ⟨S128x512, .i8⟩
  | .local _ .vmem, ⟨13, _⟩ => ⟨S128x4096, .bf16⟩
  | .local _ .vmem, ⟨14, _⟩ => ⟨S128x128, .i32⟩
  | .local _ .smem, ⟨0, _⟩ => ⟨S1, .i32⟩
  | .local _ .smem, ⟨1, _⟩ => ⟨S1, .i32⟩
  | _, _ => ⟨S1x128x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![28], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1x128x4096 : Shape := ⟨3, ![1, 128, 4096]⟩
abbrev S_ : Shape := ⟨0, ![]⟩
abbrev S14336x4096 : Shape := ⟨2, ![14336, 4096]⟩
abbrev S14336 : Shape := ⟨1, ![14336]⟩
abbrev S1x128x1x4096 : Shape := ⟨4, ![1, 128, 1, 4096]⟩
abbrev S1x1x14336x4096 : Shape := ⟨4, ![1, 1, 14336, 4096]⟩
abbrev S1x128x14336x4096 : Shape := ⟨4, ![1, 128, 14336, 4096]⟩
abbrev S1x128x14336 : Shape := ⟨3, ![1, 128, 14336]⟩
abbrev S1x128 : Shape := ⟨2, ![1, 128]⟩
abbrev S1x128x1 : Shape := ⟨3, ![1, 128, 1]⟩
abbrev S1x1x14336 : Shape := ⟨3, ![1, 1, 14336]⟩

abbrev nBuf : Space → Nat
  | .hbm => 151
  | .vmem => 0
  | .smem => 0
  | _ => 0

abbrev hbmTy0_0 (i : Nat) : BufTy := match i % 128 with
  | 0 => ⟨S1x128x4096, .i8⟩
  | 1 => ⟨S_, .i32⟩
  | 2 => ⟨S14336x4096, .i8⟩
  | 3 => ⟨S14336, .i32⟩
  | 4 => ⟨S14336, .i32⟩
  | 5 => ⟨S14336, .i32⟩
  | 6 => ⟨S14336, .i32⟩
  | 7 => ⟨S_, .i32⟩
  | 8 => ⟨S1x128x4096, .i32⟩
  | 9 => ⟨S14336x4096, .i32⟩
  | 10 => ⟨S1x128x1x4096, .i32⟩
  | 11 => ⟨S1x1x14336x4096, .i32⟩
  | 12 => ⟨S1x128x14336x4096, .i32⟩
  | 13 => ⟨S1x128x14336x4096, .i32⟩
  | 14 => ⟨S1x128x14336x4096, .i32⟩
  | 15 => ⟨S_, .i32⟩
  | 16 => ⟨S1x128x14336, .i32⟩
  | 17 => ⟨S_, .i32⟩
  | 18 => ⟨S1x128, .i32⟩
  | 19 => ⟨S_, .i32⟩
  | 20 => ⟨S14336, .i32⟩
  | 21 => ⟨S1x128x1, .i32⟩
  | 22 => ⟨S1x1x14336, .i32⟩
  | 23 => ⟨S1x128x14336, .i32⟩
  | 24 => ⟨S1x128x14336, .i32⟩
  | 25 => ⟨S1x128x14336, .i32⟩
  | 26 => ⟨S1x128x14336, .i32⟩
  | 27 => ⟨S14336, .i32⟩
  | 28 => ⟨S14336, .i32⟩
  | 29 => ⟨S1x1x14336, .i32⟩
  | 30 => ⟨S1x128x14336, .i32⟩
  | 31 => ⟨S1x128x14336, .i32⟩
  | 32 => ⟨S_, .i32⟩
  | 33 => ⟨S_, .i32⟩
  | 34 => ⟨S14336, .i32⟩
  | 35 => ⟨S14336, .i32⟩
  | 36 => ⟨S14336, .i32⟩
  | 37 => ⟨S1x1x14336, .i32⟩
  | 38 => ⟨S1x128x14336, .i32⟩
  | 39 => ⟨S1x128x14336, .i32⟩
  | 40 => ⟨S_, .i32⟩
  | 41 => ⟨S1x128x14336, .i32⟩
  | 42 => ⟨S1x128x14336, .i1⟩
  | 43 => ⟨S1x128x14336, .i32⟩
  | 44 => ⟨S1x128x14336, .i32⟩
  | 45 => ⟨S14336, .i32⟩
  | 46 => ⟨S_, .i32⟩
  | 47 => ⟨S_, .i32⟩
  | 48 => ⟨S1x128x14336, .i32⟩
  | 49 => ⟨S1x128x14336, .i32⟩
  | 50 => ⟨S1x128x14336, .i32⟩
  | 51 => ⟨S_, .i32⟩
  | 52 => ⟨S1x128x14336, .i32⟩
  | 53 => ⟨S1x128x14336, .i32⟩
  | 54 => ⟨S_, .i32⟩
  | 55 => ⟨S1x128x14336, .i32⟩
  | 56 => ⟨S1x128x14336, .i32⟩
  | 57 => ⟨S_, .i32⟩
  | 58 => ⟨S14336, .i32⟩
  | 59 => ⟨S14336, .i32⟩
  | 60 => ⟨S_, .i32⟩
  | 61 => ⟨S14336, .i32⟩
  | 62 => ⟨S14336, .i32⟩
  | 63 => ⟨S1x1x14336, .i32⟩
  | 64 => ⟨S1x128x14336, .i32⟩
  | 65 => ⟨S1x128x14336, .i32⟩
  | 66 => ⟨S1x1x14336, .i32⟩
  | 67 => ⟨S1x128x14336, .i32⟩
  | 68 => ⟨S1x128x14336, .i32⟩
  | 69 => ⟨S1x1x14336, .i32⟩
  | 70 => ⟨S1x128x14336, .i32⟩
  | 71 => ⟨S1x128x14336, .i32⟩
  | 72 => ⟨S1x128x14336, .i32⟩
  | 73 => ⟨S1x1x14336, .i32⟩
  | 74 => ⟨S1x128x14336, .i32⟩
  | 75 => ⟨S1x128x14336, .i32⟩
  | 76 => ⟨S_, .i32⟩
  | 77 => ⟨S1x128x14336, .i32⟩
  | 78 => ⟨S1x128x14336, .i32⟩
  | 79 => ⟨S_, .i32⟩
  | 80 => ⟨S1x128x14336, .i32⟩
  | 81 => ⟨S1x128x14336, .i32⟩
  | 82 => ⟨S1x128x14336, .i32⟩
  | 83 => ⟨S_, .i32⟩
  | 84 => ⟨S1x128x14336, .i32⟩
  | 85 => ⟨S1x128x14336, .i32⟩
  | 86 => ⟨S_, .i32⟩
  | 87 => ⟨S1x128x14336, .i32⟩
  | 88 => ⟨S1x128x14336, .i32⟩
  | 89 => ⟨S_, .i32⟩
  | 90 => ⟨S1x128x14336, .i32⟩
  | 91 => ⟨S1x128x14336, .i32⟩
  | 92 => ⟨S1x128x14336, .i32⟩
  | 93 => ⟨S_, .i32⟩
  | 94 => ⟨S1x128x14336, .i32⟩
  | 95 => ⟨S1x128x14336, .i32⟩
  | 96 => ⟨S1x128x14336, .i32⟩
  | 97 => ⟨S_, .i32⟩
  | 98 => ⟨S1x128x14336, .i32⟩
  | 99 => ⟨S1x128x14336, .i32⟩
  | 100 => ⟨S1x128x14336, .i32⟩
  | 101 => ⟨S1x128x14336, .i32⟩
  | 102 => ⟨S1x128x14336, .i1⟩
  | 103 => ⟨S1x128x14336, .i32⟩
  | 104 => ⟨S1x128x14336, .i32⟩
  | 105 => ⟨S_, .i32⟩
  | 106 => ⟨S1x128x14336, .i32⟩
  | 107 => ⟨S1x128x14336, .i32⟩
  | 108 => ⟨S_, .i32⟩
  | 109 => ⟨S1x128x14336, .i32⟩
  | 110 => ⟨S1x128x14336, .i32⟩
  | 111 => ⟨S1x128x14336, .i32⟩
  | 112 => ⟨S1x128x14336, .i32⟩
  | 113 => ⟨S1x128x14336, .i32⟩
  | 114 => ⟨S1x128x14336, .i32⟩
  | 115 => ⟨S_, .i32⟩
  | 116 => ⟨S14336, .i32⟩
  | 117 => ⟨S14336, .i32⟩
  | 118 => ⟨S_, .i32⟩
  | 119 => ⟨S14336, .i32⟩
  | 120 => ⟨S14336, .i32⟩
  | 121 => ⟨S1x1x14336, .i32⟩
  | 122 => ⟨S1x128x14336, .i32⟩
  | 123 => ⟨S1x128x14336, .i32⟩
  | 124 => ⟨S_, .i32⟩
  | 125 => ⟨S14336, .i32⟩
  | 126 => ⟨S14336, .i32⟩
  | 127 => ⟨S_, .i32⟩
  | _ => ⟨S1x128x4096, .i8⟩

abbrev hbmTy0_1 (i : Nat) : BufTy := match i % 128 with
  | 0 => ⟨S1x128x14336, .i32⟩
  | 1 => ⟨S1x128x14336, .i1⟩
  | 2 => ⟨S1x128x14336, .i32⟩
  | 3 => ⟨S1x1x14336, .i32⟩
  | 4 => ⟨S1x128x14336, .i32⟩
  | 5 => ⟨S1x128x14336, .i32⟩
  | 6 => ⟨S1x1x14336, .i32⟩
  | 7 => ⟨S1x128x14336, .i32⟩
  | 8 => ⟨S1x128x14336, .i32⟩
  | 9 => ⟨S1x128x14336, .i1⟩
  | 10 => ⟨S1x128x14336, .i32⟩
  | 11 => ⟨S1x128x14336, .i32⟩
  | 12 => ⟨S1x128x14336, .i32⟩
  | 13 => ⟨S1x128x14336, .i32⟩
  | 14 => ⟨S_, .i32⟩
  | 15 => ⟨S_, .i32⟩
  | 16 => ⟨S_, .i32⟩
  | 17 => ⟨S1x128x14336, .i32⟩
  | 18 => ⟨S1x128x14336, .i32⟩
  | 19 => ⟨S_, .i32⟩
  | 20 => ⟨S1x128x14336, .i32⟩
  | 21 => ⟨S1x128x14336, .i32⟩
  | 22 => ⟨S1x128x14336, .i8⟩
  | _ => ⟨S1x128x4096, .i8⟩

abbrev hbmTy (i : Nat) : BufTy := match i / 128 with
  | 0 => hbmTy0_0 i
  | 1 => hbmTy0_1 i
  | _ => ⟨S1x128x4096, .i8⟩

abbrev bufTy : (tb : Table) → Fin (tcTables nBuf tb) → BufTy
  | .hbm, ⟨i, _⟩ => hbmTy i
  | _, _ => ⟨S1x128x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_c_5 : Ref sig .tc := ⟨.hbm, 47, rfl⟩
abbrev main_call0_v0 : Ref sig .tc := ⟨.hbm, 48, rfl⟩
abbrev main_call0_v1 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_c_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_16 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_17 : Ref sig .tc := ⟨.hbm, 105, rfl⟩
abbrev main_v77 : Ref sig .tc := ⟨.hbm, 106, rfl⟩
abbrev main_v78 : Ref sig .tc := ⟨.hbm, 107, rfl⟩
abbrev main_c_18 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_19 : Ref sig .tc := ⟨.hbm, 115, rfl⟩
abbrev main_v85 : Ref sig .tc := ⟨.hbm, 116, rfl⟩
abbrev main_v86 : Ref sig .tc := ⟨.hbm, 117, rfl⟩
abbrev main_c_20 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_c_21 : Ref sig .tc := ⟨.hbm, 124, rfl⟩
abbrev main_v92 : Ref sig .tc := ⟨.hbm, 125, rfl⟩
abbrev main_v93 : Ref sig .tc := ⟨.hbm, 126, rfl⟩
abbrev main_c_22 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_23 : Ref sig .tc := ⟨.hbm, 142, rfl⟩
abbrev main_c_24 : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_v108 : Ref sig .tc := ⟨.hbm, 149, rfl⟩
abbrev main_v109 : Ref sig .tc := ⟨.hbm, 150, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pipeline.Value
public import Idealize.ShloMosaic.Lib.ValueIdxCore

@[expose] public section

/-! # What one grid point stores

A grid point stores one block of results. The generated run of the body states it as the pieces the run found; here it
is one function (`body`) of the blocks the point reads and of the two scratch buffers. At the first point the scratch
buffers are those the point itself has just filled (`out_A`, `scratch0_A`, `scratch1_A`); at every later point they are
what the point before left (`out_B`). -/

set_option maxRecDepth 16384

noncomputable section

namespace Cert.Block
open Cert.KernelIdeal Cert.KernelIdeal.Gen Idealize.ShloMosaic Idealize.ShloMosaic.TcCoe Idealize.SL.Sem
  Idealize.ShloMosaic.Tactic

variable {F : FTy → Type} [FloatOps F]

/-- The zero offsets. -/
theorem hz : (![0, 0] : Fin 2 → Nat) = fun _ => 0 := funext fun a => by fin_cases a <;> rfl

/-- The word a one-word buffer holds. -/
def word (x : Vec F S1 .i32) : Elt F .i32 := x (ValueIdx.ix1 (⟨0, Nat.one_pos⟩ : Fin 1))

/-- The accumulator of a block: the zero-point and bias terms and the eight chunks of the contraction. -/
def acc (x3 : Vec F S512x4096 .i8) (x4 x5 : Vec F S1x512 .i32) (xs0 : Vec F S128x4096 .bf16) (xs1 : Vec F S128x128 .i32) :
    IVec S128x512 32 :=
  k0_pay8
    (k0_pay7
      (k0_pay5 x4 xs1 x5
        (View.ld x3 (Rect.unit ![0, 0] S512x512.size inb_S512x4096_S512x512_0_0))
        (View.ld xs0 (Rect.unit ![0, 0] S128x512.size inb_S128x4096_S128x512_0_0)))
      (k0_pay6
        (View.ld x3 (Rect.unit ![0, 512] S512x512.size inb_S512x4096_S512x512_0_512))
        (View.ld xs0 (Rect.unit ![0, 512] S128x512.size inb_S128x4096_S128x512_0_512)))
      (View.ld x3 (Rect.unit ![0, 1024] S512x512.size inb_S512x4096_S512x512_0_1024))
      (View.ld xs0 (Rect.unit ![0, 1024] S128x512.size inb_S128x4096_S128x512_0_1024))
      (View.ld x3 (Rect.unit ![0, 1536] S512x512.size inb_S512x4096_S512x512_0_1536))
      (View.ld xs0 (Rect.unit ![0, 1536] S128x512.size inb_S128x4096_S128x512_0_1536))
      (View.ld x3 (Rect.unit ![0, 2048] S512x512.size inb_S512x4096_S512x512_0_2048))
      (View.ld xs0 (Rect.unit ![0, 2048] S128x512.size inb_S128x4096_S128x512_0_2048)))
    (View.ld x3 (Rect.unit ![0, 2560] S512x512.size inb_S512x4096_S512x512_0_2560))
    (View.ld xs0 (Rect.unit ![0, 2560] S128x512.size inb_S128x4096_S128x512_0_2560))
    (View.ld x3 (Rect.unit ![0, 3072] S512x512.size inb_S512x4096_S512x512_0_3072))
    (View.ld xs0 (Rect.unit ![0, 3072] S128x512.size inb_S128x4096_S128x512_0_3072))
    (View.ld x3 (Rect.unit ![0, 3584] S512x512.size inb_S512x4096_S512x512_0_3584))
    (View.ld xs0 (Rect.unit ![0, 3584] S128x512.size inb_S128x4096_S128x512_0_3584))

/-- The block of results of the blocks a point reads and of the two scratch buffers. -/
def body (x1 : Vec F S1 .i32) (x3 : Vec F S512x4096 .i8) (x4 x5 x6 x7 : Vec F S1x512 .i32)
    (xs0 : Vec F S128x4096 .bf16) (xs1 : Vec F S128x128 .i32) : Vec F S128x512 .i8 :=
  k0_pay1
    (k0_pay24 (k0_pay10 x7) (word x1) (k0_pay13 (acc x3 x4 x5 xs0 xs1)) (k0_pay17 (acc x3 x4 x5 xs0 xs1))
      (k0_pay22 (acc x3 x4 x5 xs0 xs1) (k0_pay9 x6)) (k0_pay23 (acc x3 x4 x5 xs0 xs1) (k0_pay9 x6)))
    255#32 k0_pay25

/-- A one-word load reads the word. -/
theorem ld_word (x : Vec F S1 .i32) (inb) (j) : View.ld x (Rect.unit ![0] S1.size inb) j = word x :=
  congrArg x (funext fun a => Fin.ext (by match a with | ⟨0, _⟩ => exact Nat.lt_one_iff.mp (Fin.isLt _)))

/-- A later point stores `body` of its blocks and of the scratch buffers as it found them. -/
theorem out_B (c : Dev nD) (i : grid0.Coords) (arg1 : Memref sig .tc .smem S1 .i32) (harg1 : arg1.IsWhole) (arg2 : Memref sig .tc .smem S1 .i32) (harg2 : arg2.IsWhole) (arg3 : Memref sig .tc .vmem S128x4096 .i8) (harg3 : arg3.IsWhole) (arg4 : Memref sig .tc .vmem S512x4096 .i8) (harg4 : arg4.IsWhole) (arg5 : Memref sig .tc .vmem S1x512 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S128x512 .i8) (harg9 : arg9.IsWhole) (arg10 : Memref sig .tc .vmem S128x4096 .bf16) (harg10 : arg10.IsWhole) (arg11 : Memref sig .tc .vmem S128x128 .i32) (harg11 : arg11.IsWhole) (hc0 : ¬cond0_0 i)
    (x0 : Vec F S1 .i32) (x1 : Vec F S1 .i32) (x2 : Vec F S128x4096 .i8) (x3 : Vec F S512x4096 .i8) (x4 : Vec F S1x512 .i32) (x5 : Vec F S1x512 .i32) (x6 : Vec F S1x512 .i32) (x7 : Vec F S1x512 .i32) (xs0 : Vec F S128x4096 .bf16) (xs1 : Vec F S128x128 .i32)  :
    out0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xs0 xs1 = body x1 x3 x4 x5 x6 x7 xs0 xs1 := by
  unfold out0_B_8
  rw [View.read_writes_junk_eq_canon]
  unfold kernelRun0_B
  dsimp only
  sl_unfold_words
  rw [View.canon_cons_unit_zero (S := S128x512) hz]
  simp only [View.readAt_eq_ld, harg1.read_unread, harg2.read_unread, harg3.read_unread, harg4.read_unread, harg5.read_unread, harg6.read_unread, harg7.read_unread, harg8.read_unread, harg10.read_unread, harg11.read_unread,
    View.ld_unit_zero (S := S1x512) hz, View.ld_unit_zero (S := S128x128) hz]
  have hw1 : word x1 = View.ld x1 (Rect.unit ![0] S1.size inb_S1_S1_0) (Shape.Idx.first (by decide)) :=
    (ld_word x1 _ _).symm
  unfold body
  rw [hw1]
  rfl

/-- The first point stores `body` of its blocks and of the scratch buffers it has just filled. -/
theorem out_A (c : Dev nD) (i : grid0.Coords) (arg1 : Memref sig .tc .smem S1 .i32) (harg1 : arg1.IsWhole) (arg2 : Memref sig .tc .smem S1 .i32) (harg2 : arg2.IsWhole) (arg3 : Memref sig .tc .vmem S128x4096 .i8) (harg3 : arg3.IsWhole) (arg4 : Memref sig .tc .vmem S512x4096 .i8) (harg4 : arg4.IsWhole) (arg5 : Memref sig .tc .vmem S1x512 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S128x512 .i8) (harg9 : arg9.IsWhole) (arg10 : Memref sig .tc .vmem S128x4096 .bf16) (harg10 : arg10.IsWhole) (arg11 : Memref sig .tc .vmem S128x128 .i32) (harg11 : arg11.IsWhole) (hc0 : cond0_0 i)
    (x0 : Vec F S1 .i32) (x1 : Vec F S1 .i32) (x2 : Vec F S128x4096 .i8) (x3 : Vec F S512x4096 .i8) (x4 : Vec F S1x512 .i32) (x5 : Vec F S1x512 .i32) (x6 : Vec F S1x512 .i32) (x7 : Vec F S1x512 .i32)  :
    out0_A_8 c i arg1 harg1 arg2 harg2 arg3 harg3 arg4 harg4 arg5 harg5 arg6 harg6 arg7 harg7 arg8 harg8 arg9 harg9 arg10 harg10 arg11 harg11 hc0 x0 x1 x2 x3 x4 x5 x6 x7 = body x1 x3 x4 x5 x6 x7 (k0_pay3 x2 (word x0)) (k0_pay4 x2 (word x0)) := by
  unfold out0_A_8
  rw [View.read_writes_junk_eq_canon]
  unfold kernelRun0_A
  dsimp only
  sl_unfold_words
  rw [View.canon_cons_unit_zero (S := S128x512) hz]
  simp only [View.readAt_eq_ld, View.readCov_eq_canon', View.canon_cons_unit_zero (S := S128x4096) hz,
    View.canon_cons_unit_zero (S := S128x128) hz, harg1.read_unread, harg2.read_unread, harg3.read_unread, harg4.read_unread, harg5.read_unread, harg6.read_unread, harg7.read_unread, harg8.read_unread,
    View.ld_unit_zero (S := S1x512) hz, View.ld_unit_zero (S := S128x4096) hz]
  have hw : word x0 = View.ld x0 (Rect.unit ![0] S1.size inb_S1_S1_0) (Shape.Idx.first (by decide)) :=
    (ld_word x0 _ _).symm
  rw [hw]
  generalize View.ld x0 (Rect.unit ![0] S1.size inb_S1_S1_0) (Shape.Idx.first (by decide)) = w0
  have e : (fun j => k0_pay4 x2 w0
      ((Rect.unit (s := S128x128) ![0, 0] S128x128.size inb_S128x128_S128x128_0_0).toLoadRect.idx j)) = k0_pay4 x2 w0 :=
    View.ld_unit_zero (Val := Elt F) (e := .i32) (S := S128x128) hz inb_S128x128_S128x128_0_0 (k0_pay4 x2 w0)
  refine Eq.trans ?_ (congrArg (body x1 x3 x4 x5 x6 x7 (k0_pay3 x2 w0)) e)
  have hw1 : word x1 = View.ld x1 (Rect.unit ![0] S1.size inb_S1_S1_0) (Shape.Idx.first (by decide)) :=
    (ld_word x1 _ _).symm
  unfold body
  rw [hw1]
  rfl

/-- The first point leaves `x - za` in the first scratch buffer. -/
theorem scratch0_A (c : Dev nD) (i : grid0.Coords) (arg1 : Memref sig .tc .smem S1 .i32) (harg1 : arg1.IsWhole) (arg2 : Memref sig .tc .smem S1 .i32) (harg2 : arg2.IsWhole) (arg3 : Memref sig .tc .vmem S128x4096 .i8) (harg3 : arg3.IsWhole) (arg4 : Memref sig .tc .vmem S512x4096 .i8) (harg4 : arg4.IsWhole) (arg5 : Memref sig .tc .vmem S1x512 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S128x512 .i8) (harg9 : arg9.IsWhole) (arg10 : Memref sig .tc .vmem S128x4096 .bf16) (harg10 : arg10.IsWhole) (arg11 : Memref sig .tc .vmem S128x128 .i32) (harg11 : arg11.IsWhole) (hc0 : cond0_0 i)
    (x0 : Vec F S1 .i32) (x1 : Vec F S1 .i32) (x2 : Vec F S128x4096 .i8) (x3 : Vec F S512x4096 .i8) (x4 : Vec F S1x512 .i32) (x5 : Vec F S1x512 .i32) (x6 : Vec F S1x512 .i32) (x7 : Vec F S1x512 .i32)  :
    sout0_A_0 c i arg1 harg1 arg2 harg2 arg3 harg3 arg4 harg4 arg5 harg5 arg6 harg6 arg7 harg7 arg8 harg8 arg9 harg9 arg10 harg10 arg11 harg11 hc0 x0 x1 x2 x3 x4 x5 x6 x7 = k0_pay3 x2 (word x0) := by
  unfold sout0_A_0
  rw [View.read_writes_junk_eq_canon]
  unfold kernelRun0_A
  dsimp only
  sl_unfold_words
  rw [View.canon_cons_unit_zero (S := S128x4096) hz]
  simp only [View.readAt_eq_ld, harg1.read_unread, harg3.read_unread, View.ld_unit_zero (S := S128x4096) hz]
  exact congrArg (k0_pay3 x2) (ld_word x0 _ _)

/-- The first point leaves its row sums in the second scratch buffer. -/
theorem scratch1_A (c : Dev nD) (i : grid0.Coords) (arg1 : Memref sig .tc .smem S1 .i32) (harg1 : arg1.IsWhole) (arg2 : Memref sig .tc .smem S1 .i32) (harg2 : arg2.IsWhole) (arg3 : Memref sig .tc .vmem S128x4096 .i8) (harg3 : arg3.IsWhole) (arg4 : Memref sig .tc .vmem S512x4096 .i8) (harg4 : arg4.IsWhole) (arg5 : Memref sig .tc .vmem S1x512 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S128x512 .i8) (harg9 : arg9.IsWhole) (arg10 : Memref sig .tc .vmem S128x4096 .bf16) (harg10 : arg10.IsWhole) (arg11 : Memref sig .tc .vmem S128x128 .i32) (harg11 : arg11.IsWhole) (hc0 : cond0_0 i)
    (x0 : Vec F S1 .i32) (x1 : Vec F S1 .i32) (x2 : Vec F S128x4096 .i8) (x3 : Vec F S512x4096 .i8) (x4 : Vec F S1x512 .i32) (x5 : Vec F S1x512 .i32) (x6 : Vec F S1x512 .i32) (x7 : Vec F S1x512 .i32)  :
    sout0_A_1 c i arg1 harg1 arg2 harg2 arg3 harg3 arg4 harg4 arg5 harg5 arg6 harg6 arg7 harg7 arg8 harg8 arg9 harg9 arg10 harg10 arg11 harg11 hc0 x0 x1 x2 x3 x4 x5 x6 x7 = k0_pay4 x2 (word x0) := by
  unfold sout0_A_1
  rw [View.read_writes_junk_eq_canon]
  unfold kernelRun0_A
  dsimp only
  sl_unfold_words
  rw [View.canon_cons_unit_zero (S := S128x128) hz]
  simp only [View.readAt_eq_ld, harg1.read_unread, harg3.read_unread, View.ld_unit_zero (S := S128x4096) hz]
  exact congrArg (k0_pay4 x2) (ld_word x0 _ _)

end Cert.Block

end
-- ==== Proof.Chunk.lean ====
module

public import proofs.«01_k».proof.Proof.Gen.KernelIdeal.Skeleton
public import Idealize.ShloMosaic.Lib.MatmulPlain
public import Idealize.ShloMosaic.Lib.BitcastFour
public import Idealize.ShloMosaic.Lib.ValueLayout
public import Mathlib.Data.BitVec
public import Mathlib.Tactic.Ring
public import Mathlib.Tactic.Linarith

@[expose] public section

/-! # One chunk of the contraction

The kernel multiplies the bf16 copy of `x - za` with the weights less 128, 512 contraction steps at a time, in floating
point, and turns each chunk's product into an integer. At the ideal values every chunk is the exact integer sum, and it
lies in the signed 32-bit range, so the conversion is exact. -/

namespace Cert.Chunk
open Idealize.ShloMosaic Idealize.ShloMosaic.ValueIdx Cert.KernelIdeal Cert.KernelIdeal.Gen
open scoped BigOperators

noncomputable section

/-- Every byte of the word that flips the signs has its top bit set, and no other. -/
theorem signs_getLsbD : ∀ p : Fin 32, (2155905152#32).getLsbD p.val = (128#8).getLsbD (p.val % 8) := by decide

/-- Flipping the top bit of each byte through a 32-bit view flips the top bit of each byte. -/
theorem flip_apply (w : IVec S512x512 8) (h : S512x512.Bitcasts 8 S128x512 32) (h' : S128x512.Bitcasts 32 S512x512 8)
    (j : S512x512.Idx) :
    bitcast S512x512 8 (xori (bitcast S128x512 32 w h) (broadcast S128x512 2155905152#32)) h' j = w j ^^^ 128#8 := by
  apply BitVec.eq_of_getLsbD_eq
  intro q hq
  rw [bitcast_getLsbD _ h' j q hq (by decide)]
  unfold xori IntOp.xori
  rw [BitVec.getLsbD_xor, BitVec.getLsbD_xor, bitcast_8_32_getLsbD w h _ _ (Nat.mod_lt _ (by decide))]
  congr 1
  · have hrow : S128x512.row (h'.srcIdx j ((S512x512.row j * 8 + q) / 32)
        (fun a ha => (Nat.div_lt_iff_lt_mul (by decide)).2 (h'.pos_lt j q hq a ha))) = (S512x512.row j * 8 + q) / 32 :=
      h'.srcIdx_row _ _ _ ⟨0, by decide⟩ rfl
    rw [show (S512x512.row j * 8 + q) % 32 % 8 = q by omega]
    congr 2
    funext a
    match a with
    | ⟨0, _⟩ =>
      refine Fin.ext ((h.srcIdx_row _ _ _ ⟨0, by decide⟩ rfl).trans ?_)
      rw [hrow]
      show _ = S512x512.row j
      omega
    | ⟨1, _⟩ =>
      exact Fin.ext ((h.srcIdx_other _ _ _ ⟨1, by decide⟩ (by decide)).trans
        (h'.srcIdx_other _ _ _ ⟨1, by decide⟩ (by decide)))
  · exact (signs_getLsbD ⟨_, Nat.mod_lt _ (by decide)⟩).trans (by
      show (128#8).getLsbD ((S512x512.row j * 8 + q) % 32 % 8) = _
      rw [show (S512x512.row j * 8 + q) % 32 % 8 = q by omega])

/-- A byte with its top bit flipped, read as signed, is the byte less 128. -/
theorem toInt_flip (b : BitVec 8) : (b ^^^ 128#8).toInt = (b.toNat : ℤ) - 128 := by
  revert b; decide +kernel

/-- A chunk's product turned into integers. -/
def chunk (w : Vec Ideal S512x512 .i8) (xs : Vec Ideal S128x512 .bf16) : IVec S128x512 32 :=
  fptosi 32 (roundeven (k0_pay6 w xs))

/-- Rounding an integer to an integer leaves it. -/
theorem roundHalfEven_int (n : ℤ) : Ideal.roundHalfEven (n : ℝ) = n := by
  unfold Ideal.roundHalfEven
  simp

/-- An integer in the signed 32-bit range, rounded and converted, is that integer's word. -/
theorem toWord_int (n : ℤ) (h0 : -2147483648 ≤ n) (h1 : n ≤ 2147483647) :
    Ideal.fptosi 32 (Ideal.liftRound Ideal.roundHalfEven (((n : ℤ) : ℝ) : EReal)) = BitVec.ofInt 32 n := by
  rw [Ideal.liftRound_coe, roundHalfEven_int]
  unfold Ideal.fptosi Ideal.toIntClamped
  show BitVec.ofInt 32 (max _ (min _ (if (0 : ℝ) ≤ (n : ℝ) then ⌊(n : ℝ)⌋ else ⌈(n : ℝ)⌉))) = _
  rw [Int.floor_intCast, Int.ceil_intCast, ite_self]
  congr 1
  have e1 : (-(2 ^ (32 - 1) : Nat) : ℤ) = -2147483648 := by norm_num
  have e2 : ((2 ^ (32 - 1) : Nat) - 1 : ℤ) = 2147483647 := by norm_num
  rw [e1, e2, min_eq_right h1, max_eq_right h0]

/-- A sum of reals as extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The word of a sum is the sum of the words. -/
theorem ofInt_sum {ι : Type} (s : Finset ι) (f : ι → ℤ) : BitVec.ofInt 32 (∑ k ∈ s, f k) = ∑ k ∈ s, BitVec.ofInt 32 (f k) := by
  classical
  induction s using Finset.induction_on with
  | empty => rfl
  | insert a s ha ih => rw [Finset.sum_insert ha, Finset.sum_insert ha, BitVec.ofInt_add, ih]

/-- One chunk, exactly: the sum over its 512 steps of `x - za` times the weight less 128, as words. -/
theorem chunk_apply (w : Vec Ideal S512x512 .i8) (xs : Vec Ideal S128x512 .bf16) (D : Fin 128 → Fin 512 → BitVec 32)
    (hx : ∀ r k, xs (ix2 r k) = (((D r k).toInt : ℝ) : EReal))
    (h0 : ∀ r k, -32767 ≤ (D r k).toInt) (h1 : ∀ r k, (D r k).toInt ≤ 32768) (r : Fin 128) (c : Fin 512) :
    chunk w xs (ix2 r c) = ∑ k : Fin 512, D r k * ((w (ix2 c k)).setWidth 32 - 128#32) := by
  have hb : ∀ k : Fin 512, -4194304 ≤ (D r k).toInt * (((w (ix2 c k)).toNat : ℤ) - 128)
      ∧ (D r k).toInt * (((w (ix2 c k)).toNat : ℤ) - 128) ≤ 4194303 := by
    intro k
    have a0 := h0 r k
    have a1 := h1 r k
    have b1 : (w (ix2 c k)).toNat < 256 := (w (ix2 c k)).isLt
    have b0 : (0 : ℤ) ≤ (w (ix2 c k)).toNat := Int.natCast_nonneg _
    have b1' : ((w (ix2 c k)).toNat : ℤ) ≤ 255 := by omega
    generalize (D r k).toInt = d at *
    generalize ((w (ix2 c k)).toNat : ℤ) = e at *
    constructor <;> nlinarith
  have hs0 : -2147483648 ≤ ∑ k : Fin 512, (D r k).toInt * (((w (ix2 c k)).toNat : ℤ) - 128) := by
    have := Finset.card_nsmul_le_sum (Finset.univ : Finset (Fin 512)) _ (-4194304 : ℤ) (fun k _ => (hb k).1)
    simpa using this
  have hs1 : ∑ k : Fin 512, (D r k).toInt * (((w (ix2 c k)).toNat : ℤ) - 128) ≤ 2147483647 := by
    have := Finset.sum_le_card_nsmul (Finset.univ : Finset (Fin 512)) _ (4194303 : ℤ) (fun k _ => (hb k).2)
    refine le_trans this ?_
    simp
  have hp : k0_pay6 w xs (ix2 r c)
      = ((((∑ k : Fin 512, (D r k).toInt * (((w (ix2 c k)).toNat : ℤ) - 128) : ℤ)) : ℝ) : EReal) := by
    unfold k0_pay6
    refine (Ideal.matmul_plain_apply none _ _ _ r c).trans ?_
    have hz : (constant (F := Ideal) S128x512 .f32 0x00000000#32 : FVec Ideal S128x512 .f32) (ix2 r c) = (0 : EReal) :=
      by
      show Ideal.ofBits .f32 0x00000000#32 = 0
      exact Ideal.ofBits_zero_f32
    rw [hz, zero_add, Int.cast_sum, coe_sum]
    refine Finset.sum_congr rfl fun k _ => ?_
    rw [hx, sitofp_apply, transpose_ix2_apply, flip_apply, Int.cast_mul, EReal.coe_mul]
    rw [← toInt_flip]
    rfl
  show Ideal.fptosi 32 (Ideal.liftRound Ideal.roundHalfEven (k0_pay6 w xs (ix2 r c))) = _
  rw [hp, toWord_int _ hs0 hs1, ofInt_sum]
  refine Finset.sum_congr rfl fun k _ => ?_
  rw [BitVec.ofInt_mul, BitVec.ofInt_toInt]
  congr 1
  have : (w (ix2 c k)).setWidth 32 = BitVec.ofInt 32 ((w (ix2 c k)).toNat : ℤ) := by
    rw [BitVec.ofInt_natCast]
    exact BitVec.eq_of_toNat_eq (by rw [BitVec.toNat_setWidth, BitVec.toNat_ofNat])
  rw [this, sub_eq_add_neg, sub_eq_add_neg, BitVec.ofInt_add]
  rfl

end

end Cert.Chunk

end
-- ==== Proof.Words.lean ====
module

public import Idealize.ShloMosaic.Lib.KernelVsHost
public import Mathlib.Algebra.BigOperators.Fin
public import Mathlib.Algebra.BigOperators.Ring.Finset
public import Mathlib.Data.BitVec
public import Mathlib.Tactic.Ring
public import Mathlib.Tactic.Linarith

@[expose] public section

/-! # The requantisation on single words

The kernel and the reference requantise one accumulator word `a` with the multiplier word `m`, the shift word `s` and
the output zero point `zc`. This file writes both as functions of four words and shows them equal for a multiplier
that is not negative. -/

namespace Cert.Words
open Idealize.ShloMosaic Idealize.ShloMosaic.IntOp

/-! ## The kernel's words -/

/-- The product of the low halves. -/
def kLo (a m : BitVec 32) : BitVec 32 := muli (andi (absi a) 65535#32) (andi m 65535#32)
/-- High half of the accumulator times low half of the multiplier. -/
def kP (a m : BitVec 32) : BitVec 32 := muli (shrui .vector (absi a) 16#32) (andi m 65535#32)
/-- Low half of the accumulator times high half of the multiplier. -/
def kR (a m : BitVec 32) : BitVec 32 := muli (andi (absi a) 65535#32) (shrsi .vector m 16#32)
/-- The middle column of the long multiplication, its carries still in it. -/
def kT (a m : BitVec 32) : BitVec 32 :=
  addi (addi (shrui .vector (kLo a m) 16#32) (andi (kP a m) 65535#32)) (andi (kR a m) 65535#32)
/-- The product's low word. -/
def kLow (a m : BitVec 32) : BitVec 32 := ori (shli .vector (kT a m) 16#32) (andi (kLo a m) 65535#32)
/-- The product's high word. -/
def kHigh (a m : BitVec 32) : BitVec 32 :=
  addi (addi (addi (muli (shrui .vector (absi a) 16#32) (shrsi .vector m 16#32)) (shrui .vector (kP a m) 16#32))
    (shrui .vector (kR a m) 16#32)) (shrui .vector (kT a m) 16#32)
/-- The rounding nudge, by the accumulator's sign. -/
def nudge (a : BitVec 32) : BitVec 32 := Scalar.select (cmpi .sge a 0#32) 1073741824#32 1073741823#32

/-- From the product's two words to the signed, rounded, doubled high half, in the kernel's operations. -/
def kMulOf (a low nud high : BitVec 32) : BitVec 32 :=
  let sum := addi low nud
  let mag := ori (shli .vector (addi high (Scalar.select (cmpi .slt (xori sum 2147483648#32) (xori low 2147483648#32)) 1#32 0#32)) 1#32)
    (shrui .vector sum 31#32)
  Scalar.select (cmpi .sge a 0#32) mag (subi 0#32 mag)

/-- The rounding right shift and the zero point, in the kernel's operations. -/
def kDiv (v s zc : BitVec 32) : BitVec 32 :=
  let mask := subi (shli .vector 1#32 s) 1#32
  addi (addi (shrsi .vector v s)
    (Scalar.select (cmpi .sgt (andi v mask)
      (addi (shrsi .vector mask 1#32) (Scalar.select (cmpi .slt v 0#32) 1#32 0#32))) 1#32 0#32)) zc

/-- The clamp to a byte. -/
def clampByte (v : BitVec 32) : BitVec 8 := (minsi 255#32 (maxsi 0#32 v)).setWidth 8

/-- The kernel's result byte of an accumulator, a multiplier, a shift and a zero point. -/
def kOut (a m s zc : BitVec 32) : BitVec 8 :=
  clampByte (kDiv (kMulOf a (kLow a m) (nudge a) (kHigh a m)) s zc)

/-! ## The reference's words -/

/-- The product of the low halves. -/
def rLo (a m : BitVec 32) : BitVec 32 := muli (andi (absi a) 65535#32) (andi m 65535#32)
/-- The two cross products, added. -/
def rMid (a m : BitVec 32) : BitVec 32 :=
  addi (muli (shrui .host (absi a) 16#32) (andi m 65535#32)) (muli (andi (absi a) 65535#32) (shrui .host m 16#32))
/-- The middle column of the long multiplication. -/
def rT (a m : BitVec 32) : BitVec 32 := addi (shrui .host (rLo a m) 16#32) (andi (rMid a m) 65535#32)
/-- The product's low word. -/
def rLow (a m : BitVec 32) : BitVec 32 := ori (shli .host (andi (rT a m) 65535#32) 16#32) (andi (rLo a m) 65535#32)
/-- The product's high word. -/
def rHigh (a m : BitVec 32) : BitVec 32 :=
  addi (addi (muli (shrui .host (absi a) 16#32) (shrui .host m 16#32)) (shrui .host (rMid a m) 16#32))
    (shrui .host (rT a m) 16#32)

/-- From the product's two words to the signed, rounded, doubled high half, in the reference's operations. -/
def rMulOf (a low nud high : BitVec 32) : BitVec 32 :=
  let sum := addi low nud
  let mag := ori (shli .host (addi high ((cmpi .ult sum low).setWidth 32)) 1#32) (shrui .host sum 31#32)
  Scalar.select (cmpi .sge a 0#32) mag (-mag)

/-- The rounding right shift and the zero point, in the reference's operations. -/
def rDiv (v s zc : BitVec 32) : BitVec 32 :=
  let mask := subi (shli .host 1#32 s) 1#32
  addi (addi (shrsi .host v s)
    ((cmpi .sgt (andi v mask) (addi (shrsi .host mask 1#32) ((cmpi .slt v 0#32).setWidth 32))).setWidth 32)) zc

/-- The reference's result byte of an accumulator, a multiplier, a shift and a zero point. -/
def rOut (a m s zc : BitVec 32) : BitVec 8 :=
  clampByte (rDiv (rMulOf a (rLow a m) (nudge a) (rHigh a m)) s zc)

/-! ## Their equality -/

/-- Masking with 65535 is the remainder by 65536. -/
theorem toNat_andi (x : BitVec 32) : (andi x 65535#32).toNat = x.toNat % 65536 := by
  show (x &&& 65535#32).toNat = _
  rw [BitVec.toNat_and]
  exact Nat.and_two_pow_sub_one_eq_mod x.toNat 16

/-- The logical right shift by 16 is the quotient by 65536. -/
theorem toNat_shrui (u : ArithUnit) (x : BitVec 32) : (shrui u x 16#32).toNat = x.toNat / 65536 := by
  unfold IntOp.shrui
  rw [if_pos (by decide)]
  show (x >>> (16#32).toNat).toNat = _
  rw [BitVec.toNat_ushiftRight, Nat.shiftRight_eq_div_pow]
  rfl

/-- The arithmetic right shift by 16 of a word that is not negative is the quotient by 65536. -/
theorem toNat_shrsi (u : ArithUnit) (x : BitVec 32) (hx : x.toNat < 2147483648) :
    (shrsi u x 16#32).toNat = x.toNat / 65536 := by
  unfold IntOp.shrsi
  rw [if_pos (by decide)]
  show (x.sshiftRight (16#32).toNat).toNat = _
  rw [BitVec.sshiftRight_eq_of_msb_false (by rw [BitVec.msb_eq_false_iff_two_mul_lt]; omega),
    BitVec.toNat_ushiftRight, Nat.shiftRight_eq_div_pow]
  rfl

/-- A word shifted up by 16 with a half word put under it. -/
theorem toNat_ori_shli (u : ArithUnit) (x y : BitVec 32) (hy : y.toNat < 65536) :
    (ori (shli u x 16#32) y).toNat = (x.toNat % 65536) * 65536 + y.toNat := by
  unfold IntOp.ori IntOp.shli
  rw [if_pos (by decide)]
  show ((x <<< (16#32).toNat) ||| y).toNat = _
  rw [BitVec.toNat_or, BitVec.toNat_shiftLeft]
  have h : x.toNat <<< (16#32).toNat % 2 ^ 32 = (x.toNat % 65536) <<< 16 := by
    show x.toNat <<< 16 % 2 ^ 32 = _
    rw [Nat.shiftLeft_eq, Nat.shiftLeft_eq]
    omega
  rw [h, ← Nat.shiftLeft_add_eq_or_of_lt hy, Nat.shiftLeft_eq]

/-- The absolute value of a word is at most 2^31. -/
theorem toNat_absi_le (a : BitVec 32) : (absi a).toNat ≤ 2147483648 := by
  unfold IntOp.absi
  have := a.isLt
  split
  · rename_i h
    rw [BitVec.msb_eq_true_iff_two_mul_ge] at h
    rw [BitVec.toNat_neg]
    omega
  · rename_i h
    rw [Bool.not_eq_true, BitVec.msb_eq_false_iff_two_mul_lt] at h
    omega

/-- The words of the two long multiplications agree. -/
theorem words_eq (a m : BitVec 32) (hm : m.toNat < 2147483648) : kLow a m = rLow a m ∧ kHigh a m = rHigh a m := by
  have hA := toNat_absi_le a
  generalize hq : absi a = q at hA
  have ha0 : q.toNat % 65536 ≤ 65535 := by omega
  have ha1 : q.toNat / 65536 ≤ 32768 := by omega
  have hb0 : m.toNat % 65536 ≤ 65535 := by omega
  have hb1 : m.toNat / 65536 ≤ 32767 := by omega
  have h00 := Nat.mul_le_mul ha0 hb0
  have h10 := Nat.mul_le_mul ha1 hb0
  have h01 := Nat.mul_le_mul ha0 hb1
  have h11 := Nat.mul_le_mul ha1 hb1
  have eLo : (kLo a m).toNat = (q.toNat % 65536) * (m.toNat % 65536) := by
    unfold kLo IntOp.muli
    rw [hq, BitVec.toNat_mul, toNat_andi, toNat_andi]
    omega
  have eLo' : (rLo a m).toNat = (q.toNat % 65536) * (m.toNat % 65536) := eLo
  have eP : (kP a m).toNat = (q.toNat / 65536) * (m.toNat % 65536) := by
    unfold kP IntOp.muli
    rw [hq, BitVec.toNat_mul, toNat_andi, toNat_shrui]
    omega
  have eR : (kR a m).toNat = (q.toNat % 65536) * (m.toNat / 65536) := by
    unfold kR IntOp.muli
    rw [hq, BitVec.toNat_mul, toNat_andi, toNat_shrsi _ _ hm]
    omega
  have eMid : (rMid a m).toNat = (q.toNat / 65536) * (m.toNat % 65536) + (q.toNat % 65536) * (m.toNat / 65536) := by
    unfold rMid IntOp.muli IntOp.addi
    rw [hq, BitVec.toNat_add, BitVec.toNat_mul, BitVec.toNat_mul, toNat_andi, toNat_andi, toNat_shrui, toNat_shrui]
    omega
  have eH : (muli (shrui .vector (absi a) 16#32) (shrsi .vector m 16#32)).toNat = (q.toNat / 65536) * (m.toNat / 65536) := by
    unfold IntOp.muli
    rw [hq, BitVec.toNat_mul, toNat_shrui, toNat_shrsi _ _ hm]
    omega
  have eH' : (muli (shrui .host (absi a) 16#32) (shrui .host m 16#32)).toNat = (q.toNat / 65536) * (m.toNat / 65536) := by
    unfold IntOp.muli
    rw [hq, BitVec.toNat_mul, toNat_shrui, toNat_shrui]
    omega
  generalize (q.toNat % 65536) * (m.toNat % 65536) = LO at *
  generalize (q.toNat / 65536) * (m.toNat % 65536) = P at *
  generalize (q.toNat % 65536) * (m.toNat / 65536) = R at *
  generalize (q.toNat / 65536) * (m.toNat / 65536) = HH at *
  have eT : (kT a m).toNat = LO / 65536 + P % 65536 + R % 65536 := by
    unfold kT IntOp.addi
    rw [BitVec.toNat_add, BitVec.toNat_add, toNat_shrui, toNat_andi, toNat_andi, eLo, eP, eR]
    omega
  have eT' : (rT a m).toNat = LO / 65536 + (P + R) % 65536 := by
    unfold rT IntOp.addi
    rw [BitVec.toNat_add, toNat_shrui, toNat_andi, eLo', eMid]
    omega
  constructor
  · apply BitVec.eq_of_toNat_eq
    unfold kLow rLow
    rw [toNat_ori_shli _ _ _ (by rw [toNat_andi]; omega), toNat_ori_shli _ _ _ (by rw [toNat_andi]; omega),
      toNat_andi, toNat_andi, toNat_andi, eLo, eLo', eT, eT']
    omega
  · apply BitVec.eq_of_toNat_eq
    unfold kHigh rHigh
    show (_ + _ : BitVec 32).toNat = (_ + _ : BitVec 32).toNat
    rw [BitVec.toNat_add, BitVec.toNat_add]
    unfold IntOp.addi
    rw [BitVec.toNat_add, BitVec.toNat_add, BitVec.toNat_add, eH, eH', toNat_shrui, toNat_shrui, toNat_shrui,
      toNat_shrui, toNat_shrui, eP, eR, eMid, eT, eT']
    omega

/-- A select of one and zero is the bit, widened. -/
theorem select_one_zero (b : BitVec 1) : Scalar.select b 1#32 0#32 = b.setWidth 32 := by
  revert b; decide

/-- Flipping the top bit of a number below 2^31 adds 2^31. -/
theorem xor_top_lt (n : Nat) (h : n < 2 ^ 31) : n ^^^ 2 ^ 31 = 2 ^ 31 + n := by
  apply Nat.eq_of_testBit_eq
  intro i
  rw [Nat.testBit_xor, Nat.testBit_two_pow]
  rcases Nat.lt_trichotomy i 31 with hi | hi | hi
  · rw [Nat.testBit_two_pow_add_gt hi]
    simp [show ¬ (31 = i) by omega]
  · subst hi
    rw [Nat.testBit_two_pow_add_eq]
    simp
  · rw [Nat.testBit_lt_two_pow (lt_trans h (Nat.pow_lt_pow_right (by omega) hi)),
      Nat.testBit_lt_two_pow (x := 2 ^ 31 + n) (i := i)
        (lt_of_lt_of_le (by omega : 2 ^ 31 + n < 2 ^ 32) (Nat.pow_le_pow_right (by omega) hi))]
    simp [show ¬ (31 = i) by omega]

/-- Flipping the top bit of a word adds 2^31, wrapping. -/
theorem xor_top (n : Nat) (h : n < 2 ^ 32) : n ^^^ 2147483648 = (n + 2147483648) % 2 ^ 32 := by
  show n ^^^ 2 ^ 31 = _
  by_cases hn : n < 2 ^ 31
  · have := xor_top_lt n hn
    omega
  · have := xor_top_lt (n - 2 ^ 31) (by omega)
    have e : n = (n - 2 ^ 31) ^^^ 2 ^ 31 := by omega
    have e' : n ^^^ 2 ^ 31 = n - 2 ^ 31 := by
      conv_lhs => rw [e]
      rw [Nat.xor_assoc, Nat.xor_self, Nat.xor_zero]
    omega

/-- Comparing two words with their signs flipped as signed words is comparing them unsigned. -/
theorem slt_flip (x y : BitVec 32) : cmpi .slt (xori x 2147483648#32) (xori y 2147483648#32) = cmpi .ult x y := by
  unfold IntOp.cmpi IntOp.xori
  congr 1
  show (x ^^^ 2147483648#32).slt (y ^^^ 2147483648#32) = x.ult y
  have h : ∀ z : BitVec 32, (z ^^^ 2147483648#32).toInt = (z.toNat : ℤ) - 2147483648 := by
    intro z
    have e : z ^^^ 2147483648#32 = z + 2147483648#32 := by
      apply BitVec.eq_of_toNat_eq
      rw [BitVec.toNat_xor, BitVec.toNat_add]
      exact xor_top z.toNat z.isLt
    have := z.isLt
    rw [e, BitVec.toInt_eq_toNat_cond, BitVec.toNat_add]
    simp only [BitVec.toNat_ofNat]
    split <;> omega
  rw [BitVec.slt, BitVec.ult, h, h]
  simp

/-- The two words of a product give the same rounded high half on both sides. -/
theorem mulOf_eq (a low nud high : BitVec 32) : kMulOf a low nud high = rMulOf a low nud high := by
  unfold kMulOf rMulOf
  simp only [slt_flip, select_one_zero, shli_unit .vector .host, shrui_unit .vector .host]
  simp only [IntOp.subi, BitVec.zero_sub]

/-- The rounding right shift is the same on both sides. -/
theorem div_eq (v s zc : BitVec 32) : kDiv v s zc = rDiv v s zc := by
  unfold kDiv rDiv
  simp only [select_one_zero, shli_unit .vector .host, shrsi_unit .vector .host]

/-- The kernel's byte is the reference's for a multiplier that is not negative. -/
theorem out_eq (a m s zc : BitVec 32) (hm : m.toNat < 2147483648) : kOut a m s zc = rOut a m s zc := by
  unfold kOut rOut
  rw [(words_eq a m hm).1, (words_eq a m hm).2, mulOf_eq, div_eq]

end Cert.Words

end
-- ==== Proof.Pay.lean ====
module

public import proofs.«01_k».proof.Proof.Block
public import proofs.«01_k».proof.Proof.Chunk
public import proofs.«01_k».proof.Proof.Words
public import Idealize.ShloMosaic.Lib.Pointwise.Reduce
public import Idealize.ShloMosaic.Lib.ValueLayoutCasts

@[expose] public section

/-! # The block of results, entry by entry

One entry of the block a grid point stores is the word-level requantisation (`Words.kOut`) of one accumulator word, and
at the ideal values that accumulator word is the sum over all 4096 contraction steps. -/

set_option maxRecDepth 16384

noncomputable section

namespace Cert.Pay
open Idealize.ShloMosaic hiding ix1 ix2 ix3 ix4
open Cert.KernelIdeal Cert.KernelIdeal.Gen Idealize.ShloMosaic.ValueIdx Cert.Block
open scoped BigOperators

/-- A row repeated down the block, at an entry. -/
theorem row_apply {α : Type} (v : S1x512.Idx → α) (h) (r : Fin 128) (j : Fin 512) :
    broadcastTo S128x512 v h (ix2 r j) = v (ix2 (0 : Fin 1) j) :=
  congrArg v (funext fun a => by
    match a with
    | ⟨0, _⟩ => rfl
    | ⟨1, _⟩ => rfl)

/-- A column repeated across the block, at an entry. -/
theorem col_apply {α : Type} (v : S128x1.Idx → α) (h) (r : Fin 128) (j : Fin 512) :
    broadcastTo S128x512 v h (ix2 r j) = v (ix2 r (0 : Fin 1)) :=
  congrArg v (funext fun a => by
    match a with
    | ⟨0, _⟩ => rfl
    | ⟨1, _⟩ => rfl)

/-- A column repeated across the row sums' buffer, at an entry. -/
theorem col128_apply {α : Type} (v : S128x1.Idx → α) (h) (r : Fin 128) (j : Fin 128) :
    broadcastTo S128x128 v h (ix2 r j) = v (ix2 r (0 : Fin 1)) :=
  congrArg v (funext fun a => by
    match a with
    | ⟨0, _⟩ => rfl
    | ⟨1, _⟩ => rfl)

/-- An entry of the stored block is the requantisation of the accumulator's entry. -/
theorem body_apply {F : FTy → Type} [FloatOps F] (x1 : Vec F S1 .i32) (x3 : Vec F S512x4096 .i8)
    (x4 x5 x6 x7 : Vec F S1x512 .i32) (xs0 : Vec F S128x4096 .bf16) (xs1 : Vec F S128x128 .i32) (r : Fin 128) (j : Fin 512) :
    body x1 x3 x4 x5 x6 x7 xs0 xs1 (ix2 r j)
      = Words.kOut (acc x3 x4 x5 xs0 xs1 (ix2 r j)) (x6 (ix2 (0 : Fin 1) j)) (x7 (ix2 (0 : Fin 1) j)) (word x1) := by
  unfold body
  generalize acc x3 x4 x5 xs0 xs1 = a
  simp only [k0_pay1, k0_pay24, k0_pay10, k0_pay13, k0_pay17, k0_pay22, k0_pay23, k0_pay9, k0_pay25, k0_pay21, k0_pay20,
    k0_pay19, k0_pay18, k0_pay16, k0_pay15, k0_pay14, k0_pay12, k0_pay11, shapeCast_self, trunci, minsi, maxsi, addi, select,
    shrsi, shli, shrui, andi, ori, xori, muli, subi, cmpi, absi, broadcast, row_apply, constantI]
  rfl

/-- The integer a row's bf16 entry stands for: the activation less its zero point. -/
def diff (x2 : Vec Ideal S128x4096 .i8) (za : BitVec 32) (r : Fin 128) (k : Fin 4096) : BitVec 32 :=
  (x2 (ix2 r k)).setWidth 32 - za

/-- The bf16 buffer holds the differences. -/
theorem pay3_apply (x2 : Vec Ideal S128x4096 .i8) (za : BitVec 32) (r : Fin 128) (k : Fin 4096) :
    k0_pay3 x2 za (ix2 r k) = (((diff x2 za r k).toInt : ℝ) : EReal) := by
  simp only [k0_pay3, k0_pay2, shapeCast_self]
  rfl

/-- A row sum, at an entry. -/
theorem rowsum_apply (v : IVec S128x4096 32) (h h') (r : Fin 128) :
    multiReductionI .add [1] S128 v 0#32 h h' (ix1 r) = ∑ k : Fin 4096, v (ix2 r k) := by
  refine (congrFun (multiReductionI_eq_reduceFold .add v 0#32 h h') _).trans
    ((reduceFold_add_eq_sum h 0#32 v _).trans ?_)
  rw [Shape.Reduces.sum_fiber_r2_a1]
  refine (zero_add _).trans (Finset.sum_congr rfl fun k _ => congrArg v (funext fun a => ?_))
  match a with
  | ⟨0, _⟩ => rfl
  | ⟨1, _⟩ => rfl

/-- The row sums' buffer holds the differences' row sums. -/
theorem pay4_apply (x2 : Vec Ideal S128x4096 .i8) (za : BitVec 32) (r : Fin 128) (j : Fin 128) :
    k0_pay4 x2 za (ix2 r j) = ∑ k : Fin 4096, diff x2 za r k := by
  unfold k0_pay4
  simp only [shapeCast_self, col128_apply]
  refine (shapeCast_a_a1_apply _ _ r (0 : Fin 1)).trans ((rowsum_apply _ _ _ r).trans ?_)
  simp only [k0_pay2, shapeCast_self]
  rfl

/-- The first column of the row sums' buffer, at an entry. -/
theorem slice_apply {α : Type} (v : S128x128.Idx → α) (h) (r : Fin 128) :
    extractStridedSlice S128x1 ![0, 0] v h (ix2 r (0 : Fin 1)) = v (ix2 r (0 : Fin 128)) :=
  congrArg v (funext fun a => Fin.ext (by
    match a with
    | ⟨0, _⟩ => exact (Nat.zero_add _)
    | ⟨1, _⟩ => rfl))

/-- The accumulator's entry: the zero-point and bias terms and the eight chunks. -/
theorem acc_apply (x3 : Vec Ideal S512x4096 .i8) (x4 x5 : Vec Ideal S1x512 .i32) (xs0 : Vec Ideal S128x4096 .bf16)
    (xs1 : Vec Ideal S128x128 .i32) (r : Fin 128) (j : Fin 512) :
    acc x3 x4 x5 xs0 xs1 (ix2 r j) =
      (128#32 - x4 (ix2 (0 : Fin 1) j)) * xs1 (ix2 r (0 : Fin 128)) + x5 (ix2 (0 : Fin 1) j)
      + Chunk.chunk (View.ld x3 (Rect.unit ![0, 0] S512x512.size inb_S512x4096_S512x512_0_0)) (View.ld xs0 (Rect.unit ![0, 0] S128x512.size inb_S128x4096_S128x512_0_0)) (ix2 r j)
      + Chunk.chunk (View.ld x3 (Rect.unit ![0, 512] S512x512.size inb_S512x4096_S512x512_0_512)) (View.ld xs0 (Rect.unit ![0, 512] S128x512.size inb_S128x4096_S128x512_0_512)) (ix2 r j)
      + Chunk.chunk (View.ld x3 (Rect.unit ![0, 1024] S512x512.size inb_S512x4096_S512x512_0_1024)) (View.ld xs0 (Rect.unit ![0, 1024] S128x512.size inb_S128x4096_S128x512_0_1024)) (ix2 r j)
      + Chunk.chunk (View.ld x3 (Rect.unit ![0, 1536] S512x512.size inb_S512x4096_S512x512_0_1536)) (View.ld xs0 (Rect.unit ![0, 1536] S128x512.size inb_S128x4096_S128x512_0_1536)) (ix2 r j)
      + Chunk.chunk (View.ld x3 (Rect.unit ![0, 2048] S512x512.size inb_S512x4096_S512x512_0_2048)) (View.ld xs0 (Rect.unit ![0, 2048] S128x512.size inb_S128x4096_S128x512_0_2048)) (ix2 r j)
      + Chunk.chunk (View.ld x3 (Rect.unit ![0, 2560] S512x512.size inb_S512x4096_S512x512_0_2560)) (View.ld xs0 (Rect.unit ![0, 2560] S128x512.size inb_S128x4096_S128x512_0_2560)) (ix2 r j)
      + Chunk.chunk (View.ld x3 (Rect.unit ![0, 3072] S512x512.size inb_S512x4096_S512x512_0_3072)) (View.ld xs0 (Rect.unit ![0, 3072] S128x512.size inb_S128x4096_S128x512_0_3072)) (ix2 r j)
      + Chunk.chunk (View.ld x3 (Rect.unit ![0, 3584] S512x512.size inb_S512x4096_S512x512_0_3584)) (View.ld xs0 (Rect.unit ![0, 3584] S128x512.size inb_S128x4096_S128x512_0_3584)) (ix2 r j) := by
  rw [← slice_apply xs1 slices_S128x128_o0_0_S128x1 r, ← col_apply (extractStridedSlice S128x1 ![0, 0] xs1 slices_S128x128_o0_0_S128x1) broadcasts_S128x1_S128x512 r j, ← row_apply x5 broadcasts_S1x512_S128x512 r j]
  rw [← row_apply (fun i => 128#32 - x4 i) broadcasts_S1x512_S128x512 r j]
  unfold acc
  simp only [k0_pay8, k0_pay7, k0_pay5, shapeCast_self]
  rfl

/-- A sum over the contraction in eight chunks of 512. -/
theorem sum_chunks {M : Type} [AddCommMonoid M] (f : Fin 4096 → M) :
    ∑ k : Fin 4096, f k = ∑ q : Fin 8, ∑ k : Fin 512, f ⟨q.val * 512 + k.val, by omega⟩ := by
  rw [← (finProdFinEquiv (m := 8) (n := 512)).sum_comp f, Fintype.sum_prod_type]
  refine Finset.sum_congr rfl fun q _ => Finset.sum_congr rfl fun k _ => congrArg f (Fin.ext ?_)
  show k.val + 512 * q.val = q.val * 512 + k.val
  omega

/-- A chunk of the weights, read off the whole block. -/
theorem ld3 (x3 : Vec Ideal S512x4096 .i8) (q : Fin 8)
    (i3 : ∀ a, (![0, q.val * 512] : Fin 2 → Nat) a + S512x512.size a ≤ S512x4096.size a) (c k : Fin 512) :
    View.ld x3 (Rect.unit (s := S512x4096) ![0, q.val * 512] S512x512.size i3) (ix2 c k)
      = x3 (ix2 c (⟨q.val * 512 + k.val, by omega⟩ : Fin 4096)) :=
  congrArg x3 (funext fun a => Fin.ext (by
    match a with
    | ⟨0, _⟩ => show 0 + 1 * c.val = c.val; omega
    | ⟨1, _⟩ => show q.val * 512 + 1 * k.val = q.val * 512 + k.val; omega))

/-- A chunk of the differences, read off the whole buffer. -/
theorem ld0 (xs : Vec Ideal S128x4096 .bf16) (q : Fin 8)
    (i0 : ∀ a, (![0, q.val * 512] : Fin 2 → Nat) a + S128x512.size a ≤ S128x4096.size a) (r : Fin 128) (k : Fin 512) :
    View.ld xs (Rect.unit (s := S128x4096) ![0, q.val * 512] S128x512.size i0) (ix2 r k)
      = xs (ix2 r (⟨q.val * 512 + k.val, by omega⟩ : Fin 4096)) :=
  congrArg xs (funext fun a => Fin.ext (by
    match a with
    | ⟨0, _⟩ => show 0 + 1 * r.val = r.val; omega
    | ⟨1, _⟩ => show q.val * 512 + 1 * k.val = q.val * 512 + k.val; omega))

/-- A chunk of the contraction, read off the whole blocks. -/
theorem chunk_ld (x3 : Vec Ideal S512x4096 .i8) (x2 : Vec Ideal S128x4096 .i8) (za : BitVec 32)
    (h0 : ∀ r k, -32767 ≤ (diff x2 za r k).toInt) (h1 : ∀ r k, (diff x2 za r k).toInt ≤ 32768) (q : Fin 8)
    (i3 : ∀ a, (![0, q.val * 512] : Fin 2 → Nat) a + S512x512.size a ≤ S512x4096.size a)
    (i0 : ∀ a, (![0, q.val * 512] : Fin 2 → Nat) a + S128x512.size a ≤ S128x4096.size a) (r : Fin 128) (j : Fin 512) :
    Chunk.chunk (View.ld x3 (Rect.unit (s := S512x4096) ![0, q.val * 512] S512x512.size i3))
      (View.ld (k0_pay3 x2 za : Vec Ideal S128x4096 .bf16) (Rect.unit (s := S128x4096) ![0, q.val * 512] S128x512.size i0)) (ix2 r j)
      = ∑ k : Fin 512, diff x2 za r ⟨q.val * 512 + k.val, by omega⟩
          * ((x3 (ix2 j (⟨q.val * 512 + k.val, by omega⟩ : Fin 4096))).setWidth 32 - 128#32) := by
  rw [Chunk.chunk_apply _ _ (fun r k => diff x2 za r ⟨q.val * 512 + k.val, by omega⟩)
    (fun r k => (ld0 _ q i0 r k).trans (pay3_apply x2 za r _)) (fun r k => h0 _ _) (fun r k => h1 _ _)]
  exact Finset.sum_congr rfl fun k _ => by rw [ld3]

/-- The accumulator's entry when the scratch buffers hold the differences and their row sums: one sum over the whole
contraction. -/
theorem acc_eq (x2 : Vec Ideal S128x4096 .i8) (za : BitVec 32) (x3 : Vec Ideal S512x4096 .i8) (x4 x5 : Vec Ideal S1x512 .i32)
    (h0 : ∀ r k, -32767 ≤ (diff x2 za r k).toInt) (h1 : ∀ r k, (diff x2 za r k).toInt ≤ 32768) (r : Fin 128) (j : Fin 512) :
    acc x3 x4 x5 (k0_pay3 x2 za : Vec Ideal S128x4096 .bf16) (k0_pay4 x2 za : Vec Ideal S128x128 .i32) (ix2 r j)
      = (128#32 - x4 (ix2 (0 : Fin 1) j)) * (∑ k : Fin 4096, diff x2 za r k) + x5 (ix2 (0 : Fin 1) j)
        + ∑ k : Fin 4096, diff x2 za r k * ((x3 (ix2 j k)).setWidth 32 - 128#32) := by
  rw [acc_apply, pay4_apply, sum_chunks (fun k => diff x2 za r k * ((x3 (ix2 j k)).setWidth 32 - 128#32)), Fin.sum_univ_eight]
  have c := fun q i3 i0 => chunk_ld x3 x2 za h0 h1 q i3 i0 r j
  have c0 := c 0 inb_S512x4096_S512x512_0_0 inb_S128x4096_S128x512_0_0
  have c1 := c 1 inb_S512x4096_S512x512_0_512 inb_S128x4096_S128x512_0_512
  have c2 := c 2 inb_S512x4096_S512x512_0_1024 inb_S128x4096_S128x512_0_1024
  have c3 := c 3 inb_S512x4096_S512x512_0_1536 inb_S128x4096_S128x512_0_1536
  have c4 := c 4 inb_S512x4096_S512x512_0_2048 inb_S128x4096_S128x512_0_2048
  have c5 := c 5 inb_S512x4096_S512x512_0_2560 inb_S128x4096_S128x512_0_2560
  have c6 := c 6 inb_S512x4096_S512x512_0_3072 inb_S128x4096_S128x512_0_3072
  have c7 := c 7 inb_S512x4096_S512x512_0_3584 inb_S128x4096_S128x512_0_3584
  rw [← c0, ← c1, ← c2, ← c3, ← c4, ← c5, ← c6, ← c7]
  simp only [← add_assoc]
  rfl

end Cert.Pay
-- ==== Proof.Value.lean ====
module

public import proofs.«01_k».proof.Proof.Block
public import Idealize.ShloMosaic.Lib.Pipeline.Value
public import Idealize.ShloMosaic.Lib.ValueLayout
public import Idealize.ShloMosaic.Lib.StableHlo.Run

@[expose] public section

/-! # What the run leaves in the result

Every grid point writes back the block `Block.body` of its blocks and of the scratch buffers that the first point
filled, the blocks tile the array, and the host reshapes the array into the result. -/

noncomputable section

namespace Cert.Value
open Idealize.ShloMosaic
open Cert.KernelIdeal Cert.KernelIdeal.Gen Idealize.ShloMosaic.TcCoe Idealize.SL.Sem Idealize.ShloMosaic.ValueIdx
  Cert.Block
open Idealize.ShloMosaic.Pipeline (Dat)

variable {F : FTy → Type} [FloatOps F]
variable (m : (ℓ : Loc nD τ sig) → Buf (Elt F) ℓ) (ρ : Dev nD → PrngReg)

/-! ## The blocks a point reads -/

/-- The activation zero point's window is its whole one-word array. -/
theorem iblk0_eq (c : Dev nD) (t : Fin cfg0.N) : iblk m c 0 t = V m c main_v0 := by
  have hi := (by decide +kernel : ∀ t : Fin grid0.N, win0_0.index t (0 : Fin 1) = 0) t
  funext j
  refine congrArg (V m c main_v0) (funext fun a => Fin.ext ?_)
  match a with
  | ⟨0, _⟩ => show win0_0.index t (0 : Fin 1) * 1 + 1 * (j 0).val = (j 0).val; omega

/-- The output zero point's window is its whole one-word array. -/
theorem iblk1_eq (c : Dev nD) (t : Fin cfg0.N) : iblk m c 1 t = V m c main_v1 := by
  have hi := (by decide +kernel : ∀ t : Fin grid0.N, win0_1.index t (0 : Fin 1) = 0) t
  funext j
  refine congrArg (V m c main_v1) (funext fun a => Fin.ext ?_)
  match a with
  | ⟨0, _⟩ => show win0_1.index t (0 : Fin 1) * 1 + 1 * (j 0).val = (j 0).val; omega

/-- The activations' window is the whole array at every point. -/
theorem iblk2_eq (c : Dev nD) (t : Fin cfg0.N) : iblk m c 2 t = V m c main_v2 := by
  have hi := (by decide +kernel : ∀ t : Fin grid0.N, win0_2.index t (0 : Fin 2) = 0 ∧ win0_2.index t (1 : Fin 2) = 0) t
  funext j
  refine congrArg (V m c main_v2) (funext fun a => Fin.ext ?_)
  match a with
  | ⟨0, _⟩ => show win0_2.index t (0 : Fin 2) * 128 + 1 * (j 0).val = (j 0).val; omega
  | ⟨1, _⟩ => show win0_2.index t (1 : Fin 2) * 4096 + 1 * (j 1).val = (j 1).val; omega

/-- The column of the result that column `j` of point `t`'s block is. -/
def col (t : Fin cfg0.N) (j : Fin 512) : Fin 14336 := ⟨t.val * 512 + j.val, by have := lt_of_lt_of_eq t.isLt N_0; omega⟩

/-- The weights' window at a point is the rows of the point's columns. -/
theorem iblk3_apply (c : Dev nD) (t : Fin cfg0.N) (j : Fin 512) (k : Fin 4096) :
    iblk m c 3 t (ix2 j k) = V m c main_arg2 (ix2 (col t j) k) := by
  have hi := (by decide +kernel : ∀ t : Fin grid0.N, win0_3.index t (0 : Fin 2) = t.val ∧ win0_3.index t (1 : Fin 2) = 0) t
  refine congrArg (V m c main_arg2) (funext fun a => Fin.ext ?_)
  match a with
  | ⟨0, _⟩ => show win0_3.index t (0 : Fin 2) * 512 + 1 * j.val = t.val * 512 + j.val; omega
  | ⟨1, _⟩ => show win0_3.index t (1 : Fin 2) * 4096 + 1 * k.val = k.val; omega

/-- The weights' zero points at a point are those of its columns. -/
theorem iblk4_apply (c : Dev nD) (t : Fin cfg0.N) (j : Fin 512) :
    iblk m c 4 t (ix2 (0 : Fin 1) j) = V m c main_v3 (ix2 (0 : Fin 1) (col t j)) := by
  have hi := (by decide +kernel : ∀ t : Fin grid0.N, win0_4.index t (0 : Fin 2) = 0 ∧ win0_4.index t (1 : Fin 2) = t.val) t
  refine congrArg (V m c main_v3) (funext fun a => Fin.ext ?_)
  match a with
  | ⟨0, _⟩ => show win0_4.index t (0 : Fin 2) * 1 + 1 * 0 = 0; omega
  | ⟨1, _⟩ => show win0_4.index t (1 : Fin 2) * 512 + 1 * j.val = t.val * 512 + j.val; omega

/-- The biases at a point are those of its columns. -/
theorem iblk5_apply (c : Dev nD) (t : Fin cfg0.N) (j : Fin 512) :
    iblk m c 5 t (ix2 (0 : Fin 1) j) = V m c main_v4 (ix2 (0 : Fin 1) (col t j)) := by
  have hi := (by decide +kernel : ∀ t : Fin grid0.N, win0_5.index t (0 : Fin 2) = 0 ∧ win0_5.index t (1 : Fin 2) = t.val) t
  refine congrArg (V m c main_v4) (funext fun a => Fin.ext ?_)
  match a with
  | ⟨0, _⟩ => show win0_5.index t (0 : Fin 2) * 1 + 1 * 0 = 0; omega
  | ⟨1, _⟩ => show win0_5.index t (1 : Fin 2) * 512 + 1 * j.val = t.val * 512 + j.val; omega

/-- The multipliers at a point are those of its columns. -/
theorem iblk6_apply (c : Dev nD) (t : Fin cfg0.N) (j : Fin 512) :
    iblk m c 6 t (ix2 (0 : Fin 1) j) = V m c main_v5 (ix2 (0 : Fin 1) (col t j)) := by
  have hi := (by decide +kernel : ∀ t : Fin grid0.N, win0_6.index t (0 : Fin 2) = 0 ∧ win0_6.index t (1 : Fin 2) = t.val) t
  refine congrArg (V m c main_v5) (funext fun a => Fin.ext ?_)
  match a with
  | ⟨0, _⟩ => show win0_6.index t (0 : Fin 2) * 1 + 1 * 0 = 0; omega
  | ⟨1, _⟩ => show win0_6.index t (1 : Fin 2) * 512 + 1 * j.val = t.val * 512 + j.val; omega

/-- The shifts at a point are those of its columns. -/
theorem iblk7_apply (c : Dev nD) (t : Fin cfg0.N) (j : Fin 512) :
    iblk m c 7 t (ix2 (0 : Fin 1) j) = V m c main_v6 (ix2 (0 : Fin 1) (col t j)) := by
  have hi := (by decide +kernel : ∀ t : Fin grid0.N, win0_7.index t (0 : Fin 2) = 0 ∧ win0_7.index t (1 : Fin 2) = t.val) t
  refine congrArg (V m c main_v6) (funext fun a => Fin.ext ?_)
  match a with
  | ⟨0, _⟩ => show win0_7.index t (0 : Fin 2) * 1 + 1 * 0 = 0; omega
  | ⟨1, _⟩ => show win0_7.index t (1 : Fin 2) * 512 + 1 * j.val = t.val * 512 + j.val; omega

/-! ## The points -/

/-- The differences' buffer, as the first point fills it. -/
def scr0 (c : Dev nD) : Vec F S128x4096 .bf16 := k0_pay3 (V m c main_v2 : Vec F S128x4096 .i8) (word (V m c main_v0))
/-- The row sums' buffer, as the first point fills it. -/
def scr1 (c : Dev nD) : Vec F S128x128 .i32 := k0_pay4 (V m c main_v2 : Vec F S128x4096 .i8) (word (V m c main_v0))

/-- A later point leaves the scratch buffers as it found them. -/
theorem step_eq (c : Dev nD) (t : Fin cfg0.N) (h0 : ¬ t.val % 28 = 0) :
    (outsAt0 m c t.val t.isLt).2 = (outsAt0 m c (t.val - 1) (Nat.lt_of_le_of_lt (Nat.sub_le _ _) t.isLt)).2 := by
  rw [outsAt0_B m c t h0]
  generalize outsAt0 m c (t.val - 1) _ = p
  rfl

/-- After every point the scratch buffers hold what the first point put there. -/
theorem scratch_eq (c : Dev nD) : ∀ (n : ℕ) (h : n < cfg0.N), (outsAt0 m c n h).2 = (scr0 m c, scr1 m c)
  | 0, h => by
    have e := outsAt0_A m c ⟨0, h⟩ (Nat.zero_mod _)
    dsimp only at e
    rw [e, scratch0_A, scratch1_A, iblk0_eq, iblk2_eq]
    rfl
  | n + 1, h => by
    have hn : n + 1 < 28 := lt_of_lt_of_eq h N_0
    exact (step_eq m c ⟨n + 1, h⟩ (by show ¬ (n + 1) % 28 = 0; omega)).trans (scratch_eq c n (Nat.lt_of_succ_lt h))

/-- The block a point stores. -/
def blockOf (c : Dev nD) (t : Fin cfg0.N) : Vec F S128x512 .i8 :=
  body (V m c main_v1) (iblk m c 3 t) (iblk m c 4 t) (iblk m c 5 t) (iblk m c 6 t) (iblk m c 7 t) (scr0 m c) (scr1 m c)

/-- Every point stores `blockOf`. -/
theorem out_eq (c : Dev nD) (t : Fin cfg0.N) : (outsAt0 m c t.val t.isLt).1 = blockOf m c t := by
  by_cases h0 : t.val % 28 = 0
  · rw [outsAt0_A m c t h0, out_A, iblk0_eq, iblk1_eq, iblk2_eq]
    rfl
  · rw [outsAt0_B m c t h0, out_B, iblk1_eq, scratch_eq]
    unfold blockOf
    with_reducible rfl

/-! ## The array -/

/-- What the array ends holding. -/
def G (c : Dev nD) : Vec F S128x14336 .i8 := fun i =>
  blockOf m c ⟨(i 1).val / 512, by have : (i 1).val < 14336 := (i 1).isLt; rw [show cfg0.N = 28 from N_0]; omega⟩
    (ix2 ⟨(i 0).val, (i 0).isLt⟩ (⟨(i 1).val % 512, Nat.mod_lt _ (by decide)⟩ : Fin 512))

/-- The output window's block indices, and that every point writes back. -/
theorem idx8 : ∀ t : Fin cfg0.N, win0_8.index t (0 : Fin 2) = 0 ∧ win0_8.index t (1 : Fin 2) = t.val ∧ win0_8.flush t = true :=
  (by decide +kernel : ∀ t : Fin grid0.N, _)

/-- What a point writes back is its block of `G`. -/
theorem flushed_eq (c : Dev nD) (t : Fin cfg0.N) :
    (dats m 0 c).flushed 8 t = ((cfg0.win 8).blk t).view.read (Elt F) (G m c) := by
  show (cfg0.win 8).cut (grid0.coords t) ((dats m 0 c).after 8 t) = _
  rw [after0_8, out_eq]
  obtain ⟨e0, e1, -⟩ := idx8 t
  funext y
  have hy0 : (y 0).val < 128 := (y 0).isLt
  have hy1 : (y 1).val < 512 := (y 1).isLt
  have hb0 : (((cfg0.win 8).blk t).view.emb y 0).val = win0_8.index t (0 : Fin 2) * 128 + 1 * (y 0).val := rfl
  have hb1 : (((cfg0.win 8).blk t).view.emb y 1).val = win0_8.index t (1 : Fin 2) * 512 + 1 * (y 1).val := rfl
  show blockOf m c t ((cfg0.win 8).xinj (grid0.coords t) y) = G m c (((cfg0.win 8).blk t).view.emb y)
  unfold G
  have hp : (⟨(((cfg0.win 8).blk t).view.emb y 1).val / 512, by
      rw [show cfg0.N = 28 from N_0, hb1]; have := lt_of_lt_of_eq t.isLt N_0; omega⟩ : Fin cfg0.N) = t := by
    apply Fin.ext; show (((cfg0.win 8).blk t).view.emb y 1).val / 512 = t.val; rw [hb1]; omega
  rw [hp]
  refine congrArg (blockOf m c t) (funext fun a => Fin.ext ?_)
  match a with
  | ⟨0, _⟩ => show (y 0).val = (((cfg0.win 8).blk t).view.emb y 0).val; rw [hb0]; omega
  | ⟨1, _⟩ => show (y 1).val = (((cfg0.win 8).blk t).view.emb y 1).val % 512; rw [hb1]; omega

/-- Every index of the array lies in the block of a point that writes back. -/
theorem covered (i : S128x14336.Idx) : ∃ t : Fin cfg0.N, (cfg0.win 8).flush t = true ∧ i ∈ ((cfg0.win 8).blk t).view.set := by
  have hi0 : (i 0).val < 128 := (i 0).isLt
  have hi1 : (i 1).val < 14336 := (i 1).isLt
  let t : Fin cfg0.N := ⟨(i 1).val / 512, by rw [show cfg0.N = 28 from N_0]; omega⟩
  have ht : t.val = (i 1).val / 512 := rfl
  obtain ⟨e0, e1, e2⟩ := idx8 t
  refine ⟨t, e2, ?_⟩
  show i ∈ ((View.whole main_v7).slice (win0_8.rect t)).set
  rw [View.set_slice_whole, Rect.mem_set_unit]
  intro a
  match a with
  | ⟨0, _⟩ => show win0_8.index t (0 : Fin 2) * 128 ≤ (i 0).val ∧ (i 0).val < win0_8.index t (0 : Fin 2) * 128 + 128; omega
  | ⟨1, _⟩ => show win0_8.index t (1 : Fin 2) * 512 ≤ (i 1).val ∧ (i 1).val < win0_8.index t (1 : Fin 2) * 512 + 512; omega

/-- The array after the run. -/
theorem final (c : Dev nD) : (dats m 0 c).arrAt 8 cfg0.N = G m c :=
  (dats m 0 c).arrAt_eq_of_cover 8 _ (fun t _ => flushed_eq m c t) covered

/-! ## The result -/

/-- The result: the array under the result's shape. -/
def R (c : Dev nD) : Buf (Elt F) ((c : Thread nD τ).loc main_v8) :=
  shapeCast S1x128x14336 (G m c) shapeCasts_S128x14336_S1x128x14336

/-- After the last host operation the result's buffer holds `R`. -/
theorem tail_eq (c : Dev nD) :
    Pipeline.afterTail₀ cfgs (dats m) 0 (V0 m) [hostOps1] c main_v8 = R m c := by
  show StableHlo.after hostOps1 (Pipeline.withArrays spec0 c (V0 m c) fun w => (dats m 0 c).arrAt w cfg0.N)
    (Proc.devRef .tc main_v8) = _
  after_results
  have e : Pipeline.withArrays spec0 c (V0 m c) (fun w => (dats m 0 c).arrAt w cfg0.N) (Proc.devRef .tc main_v7) = G m c :=
    (Pipeline.withArrays_arr spec0 (by decide) c (V0 m c) _ 8).trans (final m c)
  rw [e]
  rfl

/-- The run: the result named, the arguments unchanged. -/
theorem run : θ_run defs (onTc (τ := τ) (main (F := F))) ⟨m, fun _ => 0, ρ⟩ fun r => ∀ c : Dev nD,
      r.2.mem ((c : Thread nD τ).loc main_v8) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨
      ((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

/-! ## The arrays the region finds, in the arguments -/

/-- The activations, reshaped. -/
theorem V_v2 (c : Dev nD) (r : Fin 128) (k : Fin 4096) :
    V m c main_v2 (ix2 r k) = m ((c : Thread nD τ).loc main_arg0) (ix3 (0 : Fin 1) r k) := by
  have e : V m c main_v2 = shapeCast S128x4096 (m ((c : Thread nD τ).loc main_arg0)) shapeCasts_S1x128x4096_S128x4096 := by
    show StableHlo.after hostOps0 _ (Proc.devRef .tc main_v2) = _
    after_results
    rfl
  rw [e]
  exact shapeCast_1ab_ab_apply _ _ r k

/-- The one index of a scalar. -/
def i0 : S_.Idx := fun a => a.elim0

/-- A scalar reshaped to one word is that word. -/
theorem word_reshape (x : Vec F S_ .i32) (h) : word (shapeCast S1 x h) = x i0 :=
  congrArg x (funext fun a => a.elim0)

/-- The activations' zero point. -/
theorem V_v0 (c : Dev nD) : word (V m c main_v0) = m ((c : Thread nD τ).loc main_arg1) i0 := by
  have e : V m c main_v0 = shapeCast S1 (m ((c : Thread nD τ).loc main_arg1)) shapeCasts_S_S1 := by
    show StableHlo.after hostOps0 _ (Proc.devRef .tc main_v0) = _
    after_results
    rfl
  rw [e]
  exact word_reshape _ _

/-- The output's zero point. -/
theorem V_v1 (c : Dev nD) : word (V m c main_v1) = m ((c : Thread nD τ).loc main_arg7) i0 := by
  have e : V m c main_v1 = shapeCast S1 (m ((c : Thread nD τ).loc main_arg7)) shapeCasts_S_S1 := by
    show StableHlo.after hostOps0 _ (Proc.devRef .tc main_v1) = _
    after_results
    rfl
  rw [e]
  exact word_reshape _ _

/-- The weights' zero points, as a row. -/
theorem V_v3 (c : Dev nD) (n : Fin 14336) :
    V m c main_v3 (ix2 (0 : Fin 1) n) = m ((c : Thread nD τ).loc main_arg3) (ix1 n) := by
  have e : V m c main_v3 = shapeCast S1x14336 (m ((c : Thread nD τ).loc main_arg3)) shapeCasts_S14336_S1x14336 := by
    show StableHlo.after hostOps0 _ (Proc.devRef .tc main_v3) = _
    after_results
    rfl
  rw [e]
  exact shapeCast_a_1a_apply _ _ (0 : Fin 1) n

/-- The biases, as a row. -/
theorem V_v4 (c : Dev nD) (n : Fin 14336) :
    V m c main_v4 (ix2 (0 : Fin 1) n) = m ((c : Thread nD τ).loc main_arg4) (ix1 n) := by
  have e : V m c main_v4 = shapeCast S1x14336 (m ((c : Thread nD τ).loc main_arg4)) shapeCasts_S14336_S1x14336 := by
    show StableHlo.after hostOps0 _ (Proc.devRef .tc main_v4) = _
    after_results
    rfl
  rw [e]
  exact shapeCast_a_1a_apply _ _ (0 : Fin 1) n

/-- The multipliers, as a row. -/
theorem V_v5 (c : Dev nD) (n : Fin 14336) :
    V m c main_v5 (ix2 (0 : Fin 1) n) = m ((c : Thread nD τ).loc main_arg5) (ix1 n) := by
  have e : V m c main_v5 = shapeCast S1x14336 (m ((c : Thread nD τ).loc main_arg5)) shapeCasts_S14336_S1x14336 := by
    show StableHlo.after hostOps0 _ (Proc.devRef .tc main_v5) = _
    after_results
    rfl
  rw [e]
  exact shapeCast_a_1a_apply _ _ (0 : Fin 1) n

/-- The shifts, as a row. -/
theorem V_v6 (c : Dev nD) (n : Fin 14336) :
    V m c main_v6 (ix2 (0 : Fin 1) n) = m ((c : Thread nD τ).loc main_arg6) (ix1 n) := by
  have e : V m c main_v6 = shapeCast S1x14336 (m ((c : Thread nD τ).loc main_arg6)) shapeCasts_S14336_S1x14336 := by
    show StableHlo.after hostOps0 _ (Proc.devRef .tc main_v6) = _
    after_results
    rfl
  rw [e]
  exact shapeCast_a_1a_apply _ _ (0 : Fin 1) n

/-- The result, entry by entry, in the array's blocks. -/
theorem R_apply (c : Dev nD) (r : Fin 128) (t : Fin cfg0.N) (j : Fin 512) :
    R m c (ix3 (0 : Fin 1) r (col t j)) = blockOf m c t (ix2 r j) := by
  refine (shapeCast_ab_1ab_apply (G m c) _ (0 : Fin 1) r (col t j)).trans ?_
  unfold G
  have hp : (⟨(col t j).val / 512, by have := (col t j).isLt; rw [show cfg0.N = 28 from N_0]; omega⟩ : Fin cfg0.N) = t := by
    apply Fin.ext; show (t.val * 512 + j.val) / 512 = t.val; omega
  show blockOf m c ⟨(col t j).val / 512, _⟩ _ = _
  rw [hp]
  refine congrArg (blockOf m c t) (funext fun a => Fin.ext ?_)
  match a with
  | ⟨0, _⟩ => rfl
  | ⟨1, _⟩ => show (t.val * 512 + j.val) % 512 = j.val; omega

/-- Every column of the result is a column of some block. -/
theorem col_surj (n : Fin 14336) : ∃ (t : Fin cfg0.N) (j : Fin 512), col t j = n :=
  ⟨⟨n.val / 512, by have := n.isLt; rw [show cfg0.N = 28 from N_0]; omega⟩, ⟨n.val % 512, Nat.mod_lt _ (by decide)⟩,
    Fin.ext (by show n.val / 512 * 512 + n.val % 512 = n.val; omega)⟩

end Cert.Value
-- ==== Proof.Ref.lean ====
module

public import proofs.«01_k».proof.Proof.Gen.ReferenceIdeal.Run
public import proofs.«01_k».proof.Proof.Words
public import Idealize.ShloMosaic.Lib.Pointwise.Reduce
public import Idealize.ShloMosaic.Lib.ValueIdxCore
public import Mathlib.Algebra.BigOperators.Fin

@[expose] public section

/-! # What the reference computes

The reference's result at one entry is the word-level requantisation (`Words.rOut`) of one accumulator word, and that
word is the textbook sum: the product's sum, less the zero points' corrections, plus the bias. -/

set_option maxRecDepth 16384

noncomputable section

namespace Cert.Ref
open Idealize.ShloMosaic hiding ix1 ix2 ix3 ix4
open Cert.ReferenceIdeal Cert.ReferenceIdeal.Gen Cert.ReferenceIdeal.Value Idealize.ShloMosaic.TcCoe Idealize.SL.Sem
  Idealize.ShloMosaic.StableHlo Idealize.ShloMosaic.ValueIdx
open scoped BigOperators

variable {F : FTy → Type} [FloatOps F]

/-- The reference's result, of the contents of its arguments. -/
def out (V : Valuation τ sig (Elt F)) : Vec F S1x128x14336 .i8 :=
  trunci 8 (minsi (broadcastInDim S1x128x14336 ![] bcast_S_S1x128x14336 (id (constantI S_ 32 255#32))) (maxsi (broadcastInDim S1x128x14336 ![] bcast_S_S1x128x14336 (id (constantI S_ 32 0#32))) (addi (addi (Host.shrsi (res_main_v84 V) (broadcastInDim S1x128x14336 ![0, 1, 2] bcast_S1x1x14336_S1x128x14336_0_1_2 (broadcastInDim S1x1x14336 ![2] bcast_S14336_S1x1x14336_2 (V (Proc.devRef .tc main_arg6))))) (extui 32 (cmpi .sgt (andi (res_main_v84 V) (broadcastInDim S1x128x14336 ![0, 1, 2] bcast_S1x1x14336_S1x128x14336_0_1_2 (broadcastInDim S1x1x14336 ![2] bcast_S14336_S1x1x14336_2 (res_main_v88 V)))) (addi (broadcastInDim S1x128x14336 ![0, 1, 2] bcast_S1x1x14336_S1x128x14336_0_1_2 (broadcastInDim S1x1x14336 ![2] bcast_S14336_S1x1x14336_2 (Host.shrsi (res_main_v88 V) (broadcastInDim S14336 ![] bcast_S_S14336 (constantI S_ 32 1#32))))) (extui 32 (cmpi .slt (res_main_v84 V) (broadcastInDim S1x128x14336 ![] bcast_S_S1x128x14336 (constantI S_ 32 0#32))) natLt_1_32))) natLt_1_32)) (broadcastInDim S1x128x14336 ![] bcast_S_S1x128x14336 (V (Proc.devRef .tc main_arg7)))))) natLt_8_32

/-- A column vector's value at every row, at an entry. -/
theorem row_apply {α : Type} (v : S14336.Idx → α) (h h') (r : Fin 128) (n : Fin 14336) :
    broadcastInDim S1x128x14336 ![0, 1, 2] h (broadcastInDim S1x1x14336 ![2] h' v) (ix3 (0 : Fin 1) r n) = v (ix1 n) :=
  congrArg v (funext fun a => by match a with | ⟨0, _⟩ => rfl)

/-- A tensor's magnitudes at an entry. -/
theorem absi_apply {s : Shape} (x : IVec s 32) (i : s.Idx) : (id (absi x) : IVec s 32) i = IntOp.absi (x i) := rfl

variable (V : Valuation τ sig (Elt F)) (r : Fin 128) (n : Fin 14336)

/-- The accumulator's word at an entry. -/
def A : BitVec 32 := (res_main_v27 V : IVec S1x128x14336 32) (ix3 (0 : Fin 1) r n)
/-- The multiplier's word of a column. -/
def M : BitVec 32 := (V (Proc.devRef .tc main_arg5) : IVec S14336 32) (ix1 n)
/-- The shift's word of a column. -/
def S : BitVec 32 := (V (Proc.devRef .tc main_arg6) : IVec S14336 32) (ix1 n)

/-- The multiplier's word. -/
theorem v32_apply : (res_main_v32 V : IVec S14336 32) (ix1 n) = M V n := by
  unfold res_main_v32 M
  rfl
/-- The accumulator's magnitude. -/
theorem v31_apply : (res_main_v31 V : IVec S1x128x14336 32) (ix3 (0 : Fin 1) r n) = IntOp.absi (A V r n) :=
  absi_apply (res_main_v27 V) _
/-- The low half of the multiplier. -/
theorem v41_apply : (res_main_v41 V : IVec S14336 32) (ix1 n) = IntOp.andi (M V n) 65535#32 := by
  unfold res_main_v41
  exact congrArg (fun q => IntOp.andi q 65535#32) (v32_apply V n)
/-- The high half of the multiplier. -/
theorem v39_apply : (res_main_v39 V : IVec S14336 32) (ix1 n) = IntOp.shrui .host (M V n) 16#32 := by
  unfold res_main_v39
  exact congrArg (fun q => IntOp.shrui .host q 16#32) (v32_apply V n)
/-- The low half of the accumulator's magnitude. -/
theorem v37_apply : (res_main_v37 V : IVec S1x128x14336 32) (ix3 (0 : Fin 1) r n) = IntOp.andi (IntOp.absi (A V r n)) 65535#32 := by
  unfold res_main_v37
  exact congrArg (fun q => IntOp.andi q 65535#32) (v31_apply V r n)
/-- The high half of the accumulator's magnitude. -/
theorem v35_apply : (res_main_v35 V : IVec S1x128x14336 32) (ix3 (0 : Fin 1) r n) = IntOp.shrui .host (IntOp.absi (A V r n)) 16#32 := by
  unfold res_main_v35
  exact congrArg (fun q => IntOp.shrui .host q 16#32) (v31_apply V r n)
/-- The accumulator's sign. -/
theorem v29_apply : (res_main_v29 V : IVec S1x128x14336 1) (ix3 (0 : Fin 1) r n) = IntOp.cmpi .sge (A V r n) 0#32 := by
  unfold res_main_v29 A
  generalize res_main_v27 V = a
  rfl

/-- The product of the low halves. -/
theorem v44_apply : (res_main_v44 V : IVec S1x128x14336 32) (ix3 (0 : Fin 1) r n) = Words.rLo (A V r n) (M V n) := by
  unfold res_main_v44
  exact congrArg₂ IntOp.muli (v37_apply V r n) ((row_apply _ _ _ r n).trans (v41_apply V n))
/-- The cross products. -/
theorem v51_apply : (res_main_v51 V : IVec S1x128x14336 32) (ix3 (0 : Fin 1) r n) = Words.rMid (A V r n) (M V n) := by
  unfold res_main_v51
  exact congrArg₂ IntOp.addi (congrArg₂ IntOp.muli (v35_apply V r n) ((row_apply _ _ _ r n).trans (v41_apply V n)))
    (congrArg₂ IntOp.muli (v37_apply V r n) ((row_apply _ _ _ r n).trans (v39_apply V n)))
/-- The middle column. -/
theorem v59_apply : (res_main_v59 V : IVec S1x128x14336 32) (ix3 (0 : Fin 1) r n) = Words.rT (A V r n) (M V n) := by
  unfold res_main_v59
  exact congrArg₂ (fun p q => IntOp.addi (IntOp.shrui .host p 16#32) (IntOp.andi q 65535#32)) (v44_apply V r n) (v51_apply V r n)
/-- The low word. -/
theorem v66_apply : (res_main_v66 V : IVec S1x128x14336 32) (ix3 (0 : Fin 1) r n) = Words.rLow (A V r n) (M V n) := by
  unfold res_main_v66
  exact congrArg₂ (fun p q => IntOp.ori (IntOp.shli .host (IntOp.andi p 65535#32) 16#32) (IntOp.andi q 65535#32))
    (v59_apply V r n) (v44_apply V r n)
/-- The low word with the nudge. -/
theorem v73_apply : (res_main_v73 V : IVec S1x128x14336 32) (ix3 (0 : Fin 1) r n)
    = IntOp.addi (Words.rLow (A V r n) (M V n)) (Words.nudge (A V r n)) := by
  unfold res_main_v73
  exact congrArg₂ (fun p q => IntOp.addi p (Scalar.select q 1073741824#32 1073741823#32)) (v66_apply V r n) (v29_apply V r n)
/-- The high word. -/
theorem high_apply :
    (addi (addi (muli (res_main_v35 V) (broadcastInDim S1x128x14336 ![0, 1, 2] bcast_S1x1x14336_S1x128x14336_0_1_2 (broadcastInDim S1x1x14336 ![2] bcast_S14336_S1x1x14336_2 (res_main_v39 V)))) (Host.shrui (res_main_v51 V) (broadcastInDim S1x128x14336 ![] bcast_S_S1x128x14336 (constantI S_ 32 16#32)))) (Host.shrui (res_main_v59 V) (broadcastInDim S1x128x14336 ![] bcast_S_S1x128x14336 (constantI S_ 32 16#32))) : IVec S1x128x14336 32)
      (ix3 (0 : Fin 1) r n) = Words.rHigh (A V r n) (M V n) :=
  congrArg₂ IntOp.addi
    (congrArg₂ IntOp.addi (congrArg₂ IntOp.muli (v35_apply V r n) ((row_apply _ _ _ r n).trans (v39_apply V n)))
      (congrArg (fun q => IntOp.shrui .host q 16#32) (v51_apply V r n)))
    (congrArg (fun q => IntOp.shrui .host q 16#32) (v59_apply V r n))
/-- The magnitude of the doubled high half. -/
theorem v82_apply : (res_main_v82 V : IVec S1x128x14336 32) (ix3 (0 : Fin 1) r n)
    = IntOp.ori (IntOp.shli .host (IntOp.addi (Words.rHigh (A V r n) (M V n))
        ((IntOp.cmpi .ult (IntOp.addi (Words.rLow (A V r n) (M V n)) (Words.nudge (A V r n))) (Words.rLow (A V r n) (M V n))).setWidth 32)) 1#32)
        (IntOp.shrui .host (IntOp.addi (Words.rLow (A V r n) (M V n)) (Words.nudge (A V r n))) 31#32) := by
  rw [← v73_apply, ← v66_apply, ← high_apply]
  unfold res_main_v82
  generalize res_main_v73 V = a
  generalize res_main_v66 V = b
  generalize res_main_v35 V = c
  generalize res_main_v39 V = d
  generalize res_main_v51 V = e
  generalize res_main_v59 V = f
  rfl
/-- The signed doubled high half. -/
theorem v84_apply : (res_main_v84 V : IVec S1x128x14336 32) (ix3 (0 : Fin 1) r n)
    = Words.rMulOf (A V r n) (Words.rLow (A V r n) (M V n)) (Words.nudge (A V r n)) (Words.rHigh (A V r n) (M V n)) := by
  unfold res_main_v84
  exact congrArg₂ (fun (p : BitVec 1) (q : BitVec 32) => Scalar.select p q (-q)) (v29_apply V r n) (v82_apply V r n)
/-- The shift's mask. -/
theorem v88_apply : (res_main_v88 V : IVec S14336 32) (ix1 n) = IntOp.subi (IntOp.shli .host 1#32 (S V n)) 1#32 := by
  unfold res_main_v88 S
  rfl

/-- The reference's result at an entry is the requantisation of the accumulator's entry. -/
theorem out_apply (i0 : S_.Idx) :
    out V (ix3 (0 : Fin 1) r n)
      = Words.rOut (A V r n) (M V n) (S V n) ((V (Proc.devRef .tc main_arg7) : IVec S_ 32) i0) := by
  have e88 : (broadcastInDim S1x128x14336 ![0, 1, 2] bcast_S1x1x14336_S1x128x14336_0_1_2 (broadcastInDim S1x1x14336 ![2] bcast_S14336_S1x1x14336_2 (res_main_v88 V)) : IVec S1x128x14336 32) (ix3 (0 : Fin 1) r n)
      = IntOp.subi (IntOp.shli .host 1#32 (S V n)) 1#32 := (row_apply _ _ _ r n).trans (v88_apply V n)
  have e88' : (broadcastInDim S1x128x14336 ![0, 1, 2] bcast_S1x1x14336_S1x128x14336_0_1_2 (broadcastInDim S1x1x14336 ![2] bcast_S14336_S1x1x14336_2 (Host.shrsi (res_main_v88 V) (broadcastInDim S14336 ![] bcast_S_S14336 (constantI S_ 32 1#32)))) : IVec S1x128x14336 32) (ix3 (0 : Fin 1) r n)
      = IntOp.shrsi .host (IntOp.subi (IntOp.shli .host 1#32 (S V n)) 1#32) 1#32 :=
    (row_apply _ _ _ r n).trans (congrArg (fun q => IntOp.shrsi .host q 1#32) (v88_apply V n))
  have e6 : (broadcastInDim S1x128x14336 ![0, 1, 2] bcast_S1x1x14336_S1x128x14336_0_1_2 (broadcastInDim S1x1x14336 ![2] bcast_S14336_S1x1x14336_2 (V (Proc.devRef .tc main_arg6))) : IVec S1x128x14336 32) (ix3 (0 : Fin 1) r n)
      = S V n := row_apply _ _ _ r n
  have e7 : (broadcastInDim S1x128x14336 ![] bcast_S_S1x128x14336 (V (Proc.devRef .tc main_arg7)) : IVec S1x128x14336 32) (ix3 (0 : Fin 1) r n)
      = (V (Proc.devRef .tc main_arg7) : IVec S_ 32) i0 :=
    congrArg (V (Proc.devRef .tc main_arg7) : IVec S_ 32) (funext fun a => a.elim0)
  unfold Words.rOut Words.rDiv
  rw [← v84_apply, ← e7]
  dsimp only
  rw [← e88', ← e88, ← e6]
  unfold out
  generalize res_main_v84 V = a
  generalize res_main_v88 V = b
  rfl

/-- A host reduction by addition from zero is the sum over what drops to the index. -/
theorem reduce_add {s t u : Shape} {axes : List (Fin s.rank)} (x : s.Idx → BitVec 32) (h : s.ReducesTo axes t) (hu : 0 < u.numel) (j : t.Idx) :
    Host.reduce IntOp.addi x (constantI u 32 0#32) h hu j = ∑ i ∈ Finset.univ.filter (fun i => h.drop i = j), x i := by
  refine (Host.reduce_eq_fold (fun a b : BitVec 32 => a + b) x (constantI u 32 0#32) h hu j).trans ?_
  exact (Finset.sum_eq_fold _ _).symm

end Cert.Ref
-- ==== Proof.RefAcc.lean ====
module

public import proofs.«01_k».proof.Proof.Ref

@[expose] public section

/-! # The reference's accumulator

One word of the reference's accumulator is the sum of products over the 4096 contraction steps, less each zero point
times the other operand's sum, plus the product of the zero points and the bias. -/

set_option maxRecDepth 16384

noncomputable section

namespace Cert.Ref
open Idealize.ShloMosaic hiding ix1 ix2 ix3 ix4
open Cert.ReferenceIdeal Cert.ReferenceIdeal.Gen Cert.ReferenceIdeal.Value Idealize.ShloMosaic.TcCoe Idealize.SL.Sem
  Idealize.ShloMosaic.StableHlo Idealize.ShloMosaic.ValueIdx
open scoped BigOperators

variable {F : FTy → Type} [FloatOps F]

/-- The sum of products at an entry. -/
theorem dot_apply (x : IVec S1x128x4096 32) (w : IVec S14336x4096 32) (hx hx' hw hw')
    (h : S1x128x14336x4096.ReducesTo [3] S1x128x14336) (hu : 0 < S_.numel) (r : Fin 128) (n : Fin 14336) :
    Host.reduce IntOp.addi (muli (broadcastInDim S1x128x14336x4096 ![0, 1, 2, 3] hx (broadcastInDim S1x128x1x4096 ![0, 1, 3] hx' x))
        (broadcastInDim S1x128x14336x4096 ![0, 1, 2, 3] hw (broadcastInDim S1x1x14336x4096 ![2, 3] hw' w)))
      (constantI S_ 32 0#32) h hu (ix3 (0 : Fin 1) r n) = ∑ k : Fin 4096, x (ix3 (0 : Fin 1) r k) * w (ix2 n k) := by
  refine (reduce_add _ h hu _).trans ((h.sum_fiber_r4_a3 _ _).trans (Finset.sum_congr rfl fun k _ => ?_))
  refine congrArg₂ (fun p q : BitVec 32 => p * q) (congrArg x (funext fun a => ?_)) (congrArg w (funext fun a => ?_))
  · match a with
    | ⟨0, _⟩ => rfl
    | ⟨1, _⟩ => rfl
    | ⟨2, _⟩ => rfl
  · match a with
    | ⟨0, _⟩ => rfl
    | ⟨1, _⟩ => rfl

/-- The left operand's sum of a row, at an entry. -/
theorem rows_apply (x : IVec S1x128x4096 32) (hb hb') (h : S1x128x4096.ReducesTo [2] S1x128) (hu : 0 < S_.numel)
    (r : Fin 128) (n : Fin 14336) :
    broadcastInDim S1x128x14336 ![0, 1, 2] hb (broadcastInDim S1x128x1 ![0, 1] hb' (Host.reduce IntOp.addi x (constantI S_ 32 0#32) h hu))
      (ix3 (0 : Fin 1) r n) = ∑ k : Fin 4096, x (ix3 (0 : Fin 1) r k) := by
  have e : broadcastInDim S1x128x14336 ![0, 1, 2] hb (broadcastInDim S1x128x1 ![0, 1] hb' (Host.reduce IntOp.addi x (constantI S_ 32 0#32) h hu))
      (ix3 (0 : Fin 1) r n) = Host.reduce IntOp.addi x (constantI S_ 32 0#32) h hu (ix2 (0 : Fin 1) r) := by
    generalize Host.reduce IntOp.addi x (constantI S_ 32 0#32) h hu = v
    exact congrArg v (funext fun a => by
      match a with
      | ⟨0, _⟩ => rfl
      | ⟨1, _⟩ => rfl)
  refine e.trans ((reduce_add _ h hu _).trans ((h.sum_fiber_r3_a2 _ _).trans (Finset.sum_congr rfl fun k _ => ?_)))
  exact congrArg x (funext fun a => by
    match a with
    | ⟨0, _⟩ => rfl
    | ⟨1, _⟩ => rfl
    | ⟨2, _⟩ => rfl)

/-- The right operand's sum of a row. -/
theorem cols_apply (w : IVec S14336x4096 32) (h : S14336x4096.ReducesTo [1] S14336) (hu : 0 < S_.numel) (n : Fin 14336) :
    Host.reduce IntOp.addi w (constantI S_ 32 0#32) h hu (ix1 n) = ∑ k : Fin 4096, w (ix2 n k) := by
  refine (reduce_add _ h hu _).trans ((h.sum_fiber_r2_a1 _ _).trans (Finset.sum_congr rfl fun k _ => ?_))
  exact congrArg w (funext fun a => by
    match a with
    | ⟨0, _⟩ => rfl
    | ⟨1, _⟩ => rfl)

/-- A single word repeated along the columns. -/
theorem scalar_apply (b : IVec S_ 32) (h) (n : Fin 14336) (i0 : S_.Idx) :
    broadcastInDim S14336 ![] h b (ix1 n) = b i0 :=
  congrArg b (funext fun a => a.elim0)

variable (V : Valuation τ sig (Elt F)) (r : Fin 128) (n : Fin 14336)

/-- The left operand's byte, widened. -/
def X (k : Fin 4096) : BitVec 32 := ((V (Proc.devRef .tc main_arg0) : IVec S1x128x4096 8) (ix3 (0 : Fin 1) r k)).setWidth 32
/-- The right operand's byte, widened. -/
def W (k : Fin 4096) : BitVec 32 := ((V (Proc.devRef .tc main_arg2) : IVec S14336x4096 8) (ix2 n k)).setWidth 32

/-- The accumulator at an entry, with its operands in place of the arguments' terms. -/
theorem sum_apply (x : IVec S1x128x4096 32) (w : IVec S14336x4096 32) (zb b : IVec S14336 32) (za : IVec S_ 32) (i0 : S_.Idx) :
    (addi (subi (subi (Host.reduce IntOp.addi (muli (broadcastInDim S1x128x14336x4096 ![0, 1, 2, 3] bcast_S1x128x1x4096_S1x128x14336x4096_0_1_2_3 (broadcastInDim S1x128x1x4096 ![0, 1, 3] bcast_S1x128x4096_S1x128x1x4096_0_1_3 x)) (broadcastInDim S1x128x14336x4096 ![0, 1, 2, 3] bcast_S1x1x14336x4096_S1x128x14336x4096_0_1_2_3 (broadcastInDim S1x1x14336x4096 ![2, 3] bcast_S14336x4096_S1x1x14336x4096_2_3 w))) (constantI S_ 32 0#32) reducesTo_S1x128x14336x4096_S1x128x14336_d3 h_S_) (muli (broadcastInDim S1x128x14336 ![0, 1, 2] bcast_S1x1x14336_S1x128x14336_0_1_2 (broadcastInDim S1x1x14336 ![2] bcast_S14336_S1x1x14336_2 zb)) (broadcastInDim S1x128x14336 ![0, 1, 2] bcast_S1x128x1_S1x128x14336_0_1_2 (broadcastInDim S1x128x1 ![0, 1] bcast_S1x128_S1x128x1_0_1 (Host.reduce IntOp.addi x (constantI S_ 32 0#32) reducesTo_S1x128x4096_S1x128_d2 h_S_))))) (broadcastInDim S1x128x14336 ![0, 1, 2] bcast_S1x1x14336_S1x128x14336_0_1_2 (broadcastInDim S1x1x14336 ![2] bcast_S14336_S1x1x14336_2 (muli (broadcastInDim S14336 ![] bcast_S_S14336 za) (Host.reduce IntOp.addi w (constantI S_ 32 0#32) reducesTo_S14336x4096_S14336_d1 h_S_))))) (broadcastInDim S1x128x14336 ![0, 1, 2] bcast_S1x1x14336_S1x128x14336_0_1_2 (broadcastInDim S1x1x14336 ![2] bcast_S14336_S1x1x14336_2 (addi (muli (broadcastInDim S14336 ![] bcast_S_S14336 (muli (constantI S_ 32 4096#32) za)) zb) b))) : IVec S1x128x14336 32)
      (ix3 (0 : Fin 1) r n)
    = (∑ k : Fin 4096, x (ix3 (0 : Fin 1) r k) * w (ix2 n k)) - zb (ix1 n) * (∑ k : Fin 4096, x (ix3 (0 : Fin 1) r k))
        - za i0 * (∑ k : Fin 4096, w (ix2 n k)) + (4096#32 * za i0 * zb (ix1 n) + b (ix1 n)) := by
  refine congrArg₂ (fun p q : BitVec 32 => p + q) (congrArg₂ (fun p q : BitVec 32 => p - q) (congrArg₂ (fun p q : BitVec 32 => p - q)
    (dot_apply x w _ _ _ _ _ _ r n) (congrArg₂ (fun p q : BitVec 32 => p * q) (row_apply _ _ _ r n) (rows_apply x _ _ _ _ r n))) ?_) ?_
  · refine (row_apply _ _ _ r n).trans (congrArg₂ (fun p q : BitVec 32 => p * q) (scalar_apply _ _ n i0) (cols_apply w _ _ n))
  · exact (row_apply _ _ _ r n).trans (congrArg (fun p : BitVec 32 => p * zb (ix1 n) + b (ix1 n)) (scalar_apply _ _ n i0))

/-- The left zero point's word. -/
def ZA (i0 : S_.Idx) : BitVec 32 := (V (Proc.devRef .tc main_arg1) : IVec S_ 32) i0
/-- The right zero point's word of a column. -/
def ZB : BitVec 32 := (V (Proc.devRef .tc main_arg3) : IVec S14336 32) (ix1 n)
/-- The bias's word of a column. -/
def B : BitVec 32 := (V (Proc.devRef .tc main_arg4) : IVec S14336 32) (ix1 n)

/-- The accumulator's word. -/
theorem A_eq (i0 : S_.Idx) :
    A V r n = (∑ k : Fin 4096, X V r k * W V n k) - ZB V n * (∑ k : Fin 4096, X V r k) - ZA V i0 * (∑ k : Fin 4096, W V n k)
      + (4096#32 * ZA V i0 * ZB V n + B V n) := by
  unfold A res_main_v27
  refine (sum_apply r n (res_main_v0 V) (res_main_v1 V) (V (Proc.devRef .tc main_arg3)) (V (Proc.devRef .tc main_arg4))
    (V (Proc.devRef .tc main_arg1)) i0).trans ?_
  unfold ZA ZB B X W res_main_v0 res_main_v1
  rfl

end Cert.Ref
-- ==== Proof.Equation.lean ====
module

public import proofs.«01_k».proof.Proof.Pay
public import proofs.«01_k».proof.Proof.Value
public import proofs.«01_k».proof.Proof.RefAcc
public import proofs.«01_k».proof.Pre_in_range

@[expose] public section

/-! # The kernel's result is the reference's

The two accumulators are one word by ring arithmetic modulo 2^32, and the two requantisations of one word agree when the
multiplier's sign bit is clear. -/

set_option maxRecDepth 16384

noncomputable section

namespace Cert.Equation
open Idealize.ShloMosaic hiding ix1 ix2 ix3 ix4
open Idealize.ShloMosaic.TcCoe Idealize.SL.Sem Idealize.ShloMosaic.ValueIdx Idealize.ShloMosaic.StableHlo
open scoped BigOperators

/-! ## The accumulator's identity -/

/-- The centred sums and the textbook sums are one word. -/
theorem sums_eq (X W : Fin 4096 → BitVec 32) (za zb b : BitVec 32) :
    (128#32 - zb) * (∑ k, (X k - za)) + b + ∑ k, (X k - za) * (W k - 128#32)
      = (∑ k, X k * W k) - zb * (∑ k, X k) - za * (∑ k, W k) + (4096#32 * za * zb + b) := by
  have hc : ∀ y : BitVec 32, (∑ _k : Fin 4096, y) = 4096#32 * y := fun y => by
    rw [Finset.sum_const, Finset.card_univ, Fintype.card_fin, nsmul_eq_mul]
    rfl
  have e1 : (∑ k, (X k - za)) = (∑ k, X k) - 4096#32 * za := by rw [Finset.sum_sub_distrib, hc]
  have e2 : (∑ k, (X k - za) * (W k - 128#32))
      = (∑ k, X k * W k) - 128#32 * (∑ k, X k) - za * (∑ k, W k) + 4096#32 * (za * 128#32) := by
    rw [Finset.mul_sum, Finset.mul_sum, ← hc, ← Finset.sum_sub_distrib, ← Finset.sum_sub_distrib, ← Finset.sum_add_distrib]
    exact Finset.sum_congr rfl fun k _ => by ring
  rw [e1, e2]
  generalize 128#32 = p
  generalize 4096#32 = q
  ring

/-! ## What the precondition says -/

/-- Both conditions hold where their conjunction does. -/
theorem and_one (p q : BitVec 1) (h : IntOp.andi p q = 1#1) : p = 1#1 ∧ q = 1#1 := by
  revert h; revert p q; decide

/-- A signed comparison `≥` that holds. -/
theorem sge_one (x y : BitVec 32) (h : IntOp.cmpi .sge x y = 1#1) : y.toInt ≤ x.toInt := by
  unfold IntOp.cmpi at h
  rcases hb : y.sle x with _ | _
  · simp [hb] at h
  · exact BitVec.sle_iff_toInt_le.mp hb

/-- A signed comparison `≤` that holds. -/
theorem sle_one (x y : BitVec 32) (h : IntOp.cmpi .sle x y = 1#1) : x.toInt ≤ y.toInt := by
  unfold IntOp.cmpi at h
  rcases hb : x.sle y with _ | _
  · simp [hb] at h
  · exact BitVec.sle_iff_toInt_le.mp hb

/-- The precondition's side condition. -/
theorem preFacts : Cert.Pre_in_range.Facts := ⟨by decide⟩

/-- The precondition bounds the left zero point and every multiplier. -/
theorem pre_bounds [Cert.Pre_in_range.Facts] (a0 : IVec Cert.Pre_in_range.S1x128x4096 8) (a1 : IVec Cert.Pre_in_range.S_ 32)
    (a2 : IVec Cert.Pre_in_range.S14336x4096 8) (a3 a4 a5 a6 : IVec Cert.Pre_in_range.S14336 32) (a7 : IVec Cert.Pre_in_range.S_ 32)
    (h : Cert.Pre_in_range.fn (F := Ideal) a0 a1 a2 a3 a4 a5 a6 a7 = fun _ => 1#1) (i : Cert.Pre_in_range.S_.Idx) (n : Fin 14336) :
    -32513 ≤ (a1 i).toInt ∧ (a1 i).toInt ≤ 32767 ∧ (a5 (ix1 n)).toNat < 2147483648 := by
  have e := congrFun h (ix1 n)
  obtain ⟨e1, e2⟩ := and_one _ _ e
  have e1' : IntOp.andi (IntOp.cmpi .sge (a1 i) 4294934783#32) (IntOp.cmpi .sle (a1 i) 32767#32) = 1#1 := by
    refine Eq.trans ?_ e1
    exact congrArg (fun p : BitVec 32 => IntOp.andi (IntOp.cmpi .sge p 4294934783#32) (IntOp.cmpi .sle p 32767#32))
      (congrArg a1 (funext fun a => a.elim0))
  obtain ⟨p, q⟩ := and_one _ _ e1'
  have p' := sge_one _ _ p
  have q' := sle_one _ _ q
  have e2' : (0#32).toInt ≤ (a5 (ix1 n)).toInt := sge_one _ _ e2
  rw [show (4294934783#32).toInt = -32513 from by decide] at p'
  rw [show (32767#32).toInt = 32767 from by decide] at q'
  rw [show (0#32).toInt = 0 from by decide, BitVec.toInt_eq_toNat_cond] at e2'
  refine ⟨p', q', ?_⟩
  have := (a5 (ix1 n)).isLt
  split at e2' <;> omega

/-- A byte less a zero point in range is in the range the bf16 buffer holds exactly. -/
theorem diff_bounds (x : BitVec 8) (za : BitVec 32) (h0 : -32513 ≤ za.toInt) (h1 : za.toInt ≤ 32767) :
    -32767 ≤ (x.setWidth 32 - za).toInt ∧ (x.setWidth 32 - za).toInt ≤ 32768 := by
  have hx := x.isLt
  have e : (x.setWidth 32).toInt = (x.toNat : Int) := by
    rw [BitVec.toInt_eq_toNat_cond, BitVec.toNat_setWidth, Nat.mod_eq_of_lt (by omega), if_pos (by omega)]
  have e' : (x.setWidth 32 - za).toInt = (x.toNat : Int) - za.toInt := by
    rw [BitVec.toInt_sub, e]
    exact Int.bmod_eq_of_le (by omega) (by omega)
  rw [e']
  omega

/-! ## The results -/

open Cert.KernelIdeal Cert.KernelIdeal.Gen in
/-- The kernel's result at one entry, of the words of the arguments. -/
theorem kernel_apply (m : (ℓ : Loc Cert.KernelIdeal.nD Cert.KernelIdeal.τ Cert.KernelIdeal.sig) → Buf (Elt Ideal) ℓ)
    (c : Dev Cert.KernelIdeal.nD) (X : Fin 128 → Fin 4096 → BitVec 8) (W : Fin 14336 → Fin 4096 → BitVec 8) (za zc : BitVec 32)
    (zb b mu sh : Fin 14336 → BitVec 32)
    (hX : ∀ r k, m ((c.tc : Thread nD τ).loc main_arg0) (ix3 (0 : Fin 1) r k) = X r k)
    (hza : m ((c.tc : Thread nD τ).loc main_arg1) Value.i0 = za)
    (hW : ∀ n k, m ((c.tc : Thread nD τ).loc main_arg2) (ix2 n k) = W n k)
    (hzb : ∀ n, m ((c.tc : Thread nD τ).loc main_arg3) (ix1 n) = zb n)
    (hb : ∀ n, m ((c.tc : Thread nD τ).loc main_arg4) (ix1 n) = b n)
    (hmu : ∀ n, m ((c.tc : Thread nD τ).loc main_arg5) (ix1 n) = mu n)
    (hsh : ∀ n, m ((c.tc : Thread nD τ).loc main_arg6) (ix1 n) = sh n)
    (hzc : m ((c.tc : Thread nD τ).loc main_arg7) Value.i0 = zc)
    (h0 : -32513 ≤ za.toInt) (h1 : za.toInt ≤ 32767) (r : Fin 128) (n : Fin 14336) :
    Value.R m c (ix3 (0 : Fin 1) r n)
      = Words.kOut ((128#32 - zb n) * (∑ k, ((X r k).setWidth 32 - za)) + b n
          + ∑ k, ((X r k).setWidth 32 - za) * ((W n k).setWidth 32 - 128#32)) (mu n) (sh n) zc := by
  obtain ⟨t, j, rfl⟩ := Value.col_surj n
  have hd : ∀ r k, Pay.diff (V m c main_v2) za r k = (X r k).setWidth 32 - za := fun r k => by
    unfold Pay.diff
    rw [Value.V_v2, hX]
  have hw : Block.word (V m c main_v0) = za := (Value.V_v0 m c).trans hza
  have ha : Block.acc (iblk m c 3 t) (iblk m c 4 t) (iblk m c 5 t) (Value.scr0 m c) (Value.scr1 m c) (ix2 r j)
      = (128#32 - zb (Value.col t j)) * (∑ k, ((X r k).setWidth 32 - za)) + b (Value.col t j)
          + ∑ k, ((X r k).setWidth 32 - za) * ((W (Value.col t j) k).setWidth 32 - 128#32) := by
    unfold Value.scr0 Value.scr1
    rw [hw]
    refine (Pay.acc_eq (V m c main_v2) za (iblk m c 3 t) (iblk m c 4 t) (iblk m c 5 t)
      (fun r k => by rw [hd]; exact (diff_bounds _ _ h0 h1).1) (fun r k => by rw [hd]; exact (diff_bounds _ _ h0 h1).2) r j).trans ?_
    simp only [hd]
    rw [Value.iblk4_apply, Value.iblk5_apply, Value.V_v3, Value.V_v4, hzb, hb]
    refine congrArg _ (Finset.sum_congr rfl fun k _ => ?_)
    rw [Value.iblk3_apply, V_main_arg2, hW]
  rw [Value.R_apply]
  unfold Value.blockOf
  rw [Pay.body_apply, ha, Value.iblk6_apply, Value.iblk7_apply, Value.V_v5, Value.V_v6, hmu, hsh, Value.V_v1, hzc]

open Cert.ReferenceIdeal Cert.ReferenceIdeal.Gen in
/-- The reference's result at one entry, of the words of the arguments. -/
theorem reference_apply (V : Valuation τ sig (Elt Ideal)) (X : Fin 128 → Fin 4096 → BitVec 8) (W : Fin 14336 → Fin 4096 → BitVec 8)
    (za zc : BitVec 32) (zb b mu sh : Fin 14336 → BitVec 32)
    (hX : ∀ r k, V (Proc.devRef .tc main_arg0) (ix3 (0 : Fin 1) r k) = X r k)
    (hza : V (Proc.devRef .tc main_arg1) Value.i0 = za)
    (hW : ∀ n k, V (Proc.devRef .tc main_arg2) (ix2 n k) = W n k)
    (hzb : ∀ n, V (Proc.devRef .tc main_arg3) (ix1 n) = zb n)
    (hb : ∀ n, V (Proc.devRef .tc main_arg4) (ix1 n) = b n)
    (hmu : ∀ n, V (Proc.devRef .tc main_arg5) (ix1 n) = mu n)
    (hsh : ∀ n, V (Proc.devRef .tc main_arg6) (ix1 n) = sh n)
    (hzc : V (Proc.devRef .tc main_arg7) Value.i0 = zc) (r : Fin 128) (n : Fin 14336) :
    Ref.out V (ix3 (0 : Fin 1) r n)
      = Words.rOut ((∑ k, (X r k).setWidth 32 * (W n k).setWidth 32) - zb n * (∑ k, (X r k).setWidth 32)
          - za * (∑ k, (W n k).setWidth 32) + (4096#32 * za * zb n + b n)) (mu n) (sh n) zc := by
  have hx : ∀ k, Ref.X V r k = (X r k).setWidth 32 := fun k => congrArg (BitVec.setWidth 32) (hX r k)
  have hw : ∀ k, Ref.W V n k = (W n k).setWidth 32 := fun k => congrArg (BitVec.setWidth 32) (hW n k)
  rw [Ref.out_apply V r n Value.i0, Ref.A_eq V r n Value.i0, show Ref.M V n = mu n from hmu n, show Ref.S V n = sh n from hsh n,
    show Ref.ZA V Value.i0 = za from hza, show Ref.ZB V n = zb n from hzb n, show Ref.B V n = b n from hb n]
  simp only [hx, hw]
  exact congrArg _ hzc

/-- On equal arguments that meet the precondition the kernel and the reference end with the same result. -/
theorem result_eq [Cert.Pre_in_range.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hp : Cert.Pre_in_range.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = fun _ => 1#1)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Ref.out (launchContents m' c) = Value.R m c := by
  funext i
  have hi : i = ix3 (0 : Fin 1) (i 1) (i 2) := funext fun a => by
    match a with
    | ⟨0, _⟩ => exact Subsingleton.elim (α := Fin 1) _ _
    | ⟨1, _⟩ => rfl
    | ⟨2, _⟩ => rfl
  rw [hi]
  generalize (i 1 : Fin 128) = r
  generalize (i 2 : Fin 14336) = n
  obtain ⟨b0, b1, b2⟩ := pre_bounds _ _ _ _ _ _ _ _ hp Value.i0 n
  refine (reference_apply (launchContents m' c) _ _ _ _ _ _ _ _ (fun r k => congrFun e0 _) (congrFun e1 _) (fun n k => congrFun e2 _)
    (fun n => congrFun e3 _) (fun n => congrFun e4 _) (fun n => congrFun e5 _) (fun n => congrFun e6 _) (congrFun e7 _) r n).trans ?_
  refine Eq.trans ?_ (kernel_apply m c _ _ _ _ _ _ _ _ (fun _ _ => rfl) rfl (fun _ _ => rfl) (fun _ => rfl) (fun _ => rfl)
    (fun _ => rfl) (fun _ => rfl) rfl b0 b1 r n).symm
  rw [sums_eq]
  exact (Words.out_eq _ _ _ _ b2).symm

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference runs from any memory, its arguments end unchanged, and every semaphore counter ends at zero: the
reference's program declares no semaphore. -/
theorem reference_frame : @Cert.quiescent_ReferenceIdeal Cert.ReferenceIdeal.Gen.facts := fun m g _ =>
  (θ_run _ _ _).mono (fun r h => ⟨fun c => (h c).2, sem_eq_zero_of_no_sems (by decide) r.2⟩) (Cert.ReferenceIdeal.Value.run (F := Ideal) m g)

/-- The kernel, at the ideal values, and the reference end with equal results where the precondition holds. -/
theorem algebraic :
    @Cert.algebraic_KernelIdeal_ReferenceIdeal_pre_in_range Cert.KernelIdeal.Gen.facts Cert.ReferenceIdeal.Gen.facts Cert.Equation.preFacts :=
  fun m g m' g' hp he => ⟨fun c => Cert.Value.R m c, Cert.Value.run m g,
    (θ_run _ _ _).mono (fun _ h c => ⟨(h c).1.trans (by
        obtain ⟨e0, e1, e2, e3, e4, e5, e6, e7⟩ := he c
        letI := Cert.Equation.preFacts
        exact Cert.Equation.result_eq m m' c (hp c) e0 e1 e2 e3 e4 e5 e6 e7), (h c).2⟩)
      (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts, Cert.Equation.preFacts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof

end
